-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![4, 512, 8, 64]⟩ ⟨4, ![4, 512, 16, 64]⟩ (Layout.meshBlock [2, 4, 4] ![[], [], [0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 1024]⟩ ⟨2, ![1024, 1024]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨3, ![4, 256, 1024]⟩ ⟨3, ![4, 512, 1024]⟩ (Layout.meshBlock [2, 4, 4] ![[], [0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x8x64 : Shape := ⟨4, ![4, 512, 8, 64]⟩
abbrev S512x1024 : Shape := ⟨2, ![512, 1024]⟩
abbrev S4x512x512 : Shape := ⟨3, ![4, 512, 512]⟩
abbrev S4x256x1024 : Shape := ⟨3, ![4, 256, 1024]⟩
abbrev S8 : Shape := ⟨1, ![8]⟩
abbrev S_ : Shape := ⟨0, ![]⟩
abbrev S1x128x512 : Shape := ⟨3, ![1, 128, 512]⟩
abbrev S128x512 : Shape := ⟨2, ![128, 512]⟩
abbrev S128x1024 : Shape := ⟨2, ![128, 1024]⟩
abbrev S1x128x1024 : Shape := ⟨3, ![1, 128, 1024]⟩
abbrev S1 : Shape := ⟨1, ![1]⟩
abbrev S1x256x512 : Shape := ⟨3, ![1, 256, 512]⟩
abbrev S256x512 : Shape := ⟨2, ![256, 512]⟩
abbrev S256x1024 : Shape := ⟨2, ![256, 1024]⟩
abbrev S1x256x1024 : Shape := ⟨3, ![1, 256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4x512x8x64, .f32⟩
  | .hbm, ⟨1, _⟩ => ⟨S512x1024, .f32⟩
  | .hbm, ⟨2, _⟩ => ⟨S4x512x512, .f32⟩
  | .hbm, ⟨3, _⟩ => ⟨S4x256x1024, .f32⟩
  | .local _ .vmem, ⟨0, _⟩ => ⟨S4x512x512, .f32⟩
  | .local _ .vmem, ⟨1, _⟩ => ⟨S512x1024, .f32⟩
  | .local _ .vmem, ⟨2, _⟩ => ⟨S4x256x1024, .f32⟩
  | .local _ .vmem, ⟨3, _⟩ => ⟨S4x256x1024, .f32⟩
  | .local _ .vmem, ⟨4, _⟩ => ⟨S4x256x1024, .f32⟩
  | _, _ => ⟨S4x512x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) (c0_i32_11 : BitVec 32) : Fin 3 → Nat :=
  let c0_12 : Index := 0#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_9 v2
  let c256_i32 : BitVec 32 := 256#32
  let v20 : BitVec 32 := Scalar.muli v19 c256_i32
  let v22 : BitVec 32 := Scalar.addi v20 c0_i32_11
  let v23 : Index := Scalar.indexCast v22
  let c0_13 : Index := 0#32
  ![0, v23.toNat, 0]
def k0_dev2 (d0 : Dev nD) : Nat :=
  let c0_i32_22 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_21 : BitVec 32 := 16#32
  let v30 : BitVec 32 := Scalar.muli v9 c16_i32_21
  let v31 : BitVec 32 := Scalar.addi c0_i32_22 v30
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_23 : BitVec 32 := 4#32
  let v32 : BitVec 32 := Scalar.muli v5 c4_i32_23
  let v33 : BitVec 32 := Scalar.addi v31 v32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v34 : BitVec 32 := Scalar.muli v8 c1_i32_24
  let v35 : BitVec 32 := Scalar.addi v33 v34
  v35.toNat
def k0_dev3 (d0 : Dev nD) : Nat :=
  let c0_i32_39 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_38 : BitVec 32 := 16#32
  let v52 : BitVec 32 := Scalar.muli v9 c16_i32_38
  let v53 : BitVec 32 := Scalar.addi c0_i32_39 v52
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_40 : BitVec 32 := 4#32
  let v54 : BitVec 32 := Scalar.muli v5 c4_i32_40
  let v55 : BitVec 32 := Scalar.addi v53 v54
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v56 : BitVec 32 := Scalar.muli v8 c1_i32_41
  let v57 : BitVec 32 := Scalar.addi v55 v56
  v57.toNat
def k0_off2 (d0 : Dev nD) (c0_i32_46 : BitVec 32) : Fin 3 → Nat :=
  let c1 : Index := 1#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_9 v2
  let c256_i32 : BitVec 32 := 256#32
  let v20 : BitVec 32 := Scalar.muli v19 c256_i32
  let v66 : BitVec 32 := Scalar.addi v20 c0_i32_46
  let v67 : Index := Scalar.indexCast v66
  let c0_47 : Index := 0#32
  ![1, v67.toNat, 0]
def k0_dev4 (d0 : Dev nD) : Nat :=
  let c0_i32_57 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_56 : BitVec 32 := 16#32
  let v74 : BitVec 32 := Scalar.muli v9 c16_i32_56
  let v75 : BitVec 32 := Scalar.addi c0_i32_57 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_58 : BitVec 32 := 4#32
  let v76 : BitVec 32 := Scalar.muli v5 c4_i32_58
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_59 : BitVec 32 := 1#32
  let v78 : BitVec 32 := Scalar.muli v8 c1_i32_59
  let v79 : BitVec 32 := Scalar.addi v77 v78
  v79.toNat
def k0_dev5 (d0 : Dev nD) : Nat :=
  let c0_i32_75 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_74 : BitVec 32 := 16#32
  let v96 : BitVec 32 := Scalar.muli v9 c16_i32_74
  let v97 : BitVec 32 := Scalar.addi c0_i32_75 v96
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_76 : BitVec 32 := 4#32
  let v98 : BitVec 32 := Scalar.muli v5 c4_i32_76
  let v99 : BitVec 32 := Scalar.addi v97 v98
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v100 : BitVec 32 := Scalar.muli v8 c1_i32_77
  let v101 : BitVec 32 := Scalar.addi v99 v100
  v101.toNat
def k0_off3 (d0 : Dev nD) (c0_i32_82 : BitVec 32) : Fin 3 → Nat :=
  let c2 : Index := 2#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_9 v2
  let c256_i32 : BitVec 32 := 256#32
  let v20 : BitVec 32 := Scalar.muli v19 c256_i32
  let v110 : BitVec 32 := Scalar.addi v20 c0_i32_82
  let v111 : Index := Scalar.indexCast v110
  let c0_83 : Index := 0#32
  ![2, v111.toNat, 0]
def k0_dev6 (d0 : Dev nD) : Nat :=
  let c0_i32_93 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_92 : BitVec 32 := 16#32
  let v118 : BitVec 32 := Scalar.muli v9 c16_i32_92
  let v119 : BitVec 32 := Scalar.addi c0_i32_93 v118
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_94 : BitVec 32 := 4#32
  let v120 : BitVec 32 := Scalar.muli v5 c4_i32_94
  let v121 : BitVec 32 := Scalar.addi v119 v120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_95 : BitVec 32 := 1#32
  let v122 : BitVec 32 := Scalar.muli v8 c1_i32_95
  let v123 : BitVec 32 := Scalar.addi v121 v122
  v123.toNat
def k0_dev7 (d0 : Dev nD) : Nat :=
  let c0_i32_111 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_110 : BitVec 32 := 16#32
  let v140 : BitVec 32 := Scalar.muli v9 c16_i32_110
  let v141 : BitVec 32 := Scalar.addi c0_i32_111 v140
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_112 : BitVec 32 := 4#32
  let v142 : BitVec 32 := Scalar.muli v5 c4_i32_112
  let v143 : BitVec 32 := Scalar.addi v141 v142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v144 : BitVec 32 := Scalar.muli v8 c1_i32_113
  let v145 : BitVec 32 := Scalar.addi v143 v144
  v145.toNat
def k0_off4 (d0 : Dev nD) (c0_i32_118 : BitVec 32) : Fin 3 → Nat :=
  let c3 : Index := 3#32
  let c1_i32_9 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v19 : BitVec 32 := Scalar.subi c1_i32_9 v2
  let c256_i32 : BitVec 32 := 256#32
  let v20 : BitVec 32 := Scalar.muli v19 c256_i32
  let v154 : BitVec 32 := Scalar.addi v20 c0_i32_118
  let v155 : Index := Scalar.indexCast v154
  let c0_119 : Index := 0#32
  ![3, v155.toNat, 0]
def k0_dev8 (d0 : Dev nD) : Nat :=
  let c0_i32_128 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_127 : BitVec 32 := 16#32
  let v162 : BitVec 32 := Scalar.muli v9 c16_i32_127
  let v163 : BitVec 32 := Scalar.addi c0_i32_128 v162
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_129 : BitVec 32 := 4#32
  let v164 : BitVec 32 := Scalar.muli v5 c4_i32_129
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_130 : BitVec 32 := 1#32
  let v166 : BitVec 32 := Scalar.muli v8 c1_i32_130
  let v167 : BitVec 32 := Scalar.addi v165 v166
  v167.toNat
def k0_dev9 (d0 : Dev nD) : Nat :=
  let c0_i32_146 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_145 : BitVec 32 := 16#32
  let v184 : BitVec 32 := Scalar.muli v9 c16_i32_145
  let v185 : BitVec 32 := Scalar.addi c0_i32_146 v184
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_147 : BitVec 32 := 4#32
  let v186 : BitVec 32 := Scalar.muli v5 c4_i32_147
  let v187 : BitVec 32 := Scalar.addi v185 v186
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_148 : BitVec 32 := 1#32
  let v188 : BitVec 32 := Scalar.muli v8 c1_i32_148
  let v189 : BitVec 32 := Scalar.addi v187 v188
  v189.toNat
def k0_off5 (d0 : Dev nD) : Fin 3 → Nat :=
  let c0_153 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_10 : BitVec 32 := 256#32
  let v21 : BitVec 32 := Scalar.muli v2 c256_i32_10
  let v198 : Index := Scalar.indexCast v21
  let c0_154 : Index := 0#32
  ![0, v198.toNat, 0]
def k0_off6 (d0 : Dev nD) : Fin 3 → Nat :=
  let c1_159 : Index := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_10 : BitVec 32 := 256#32
  let v21 : BitVec 32 := Scalar.muli v2 c256_i32_10
  let v205 : Index := Scalar.indexCast v21
  let c0_160 : Index := 0#32
  ![1, v205.toNat, 0]
def k0_off7 (d0 : Dev nD) : Fin 3 → Nat :=
  let c2_165 : Index := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_10 : BitVec 32 := 256#32
  let v21 : BitVec 32 := Scalar.muli v2 c256_i32_10
  let v212 : Index := Scalar.indexCast v21
  let c0_166 : Index := 0#32
  ![2, v212.toNat, 0]
def k0_off8 (d0 : Dev nD) : Fin 3 → Nat :=
  let c3_171 : Index := 3#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_10 : BitVec 32 := 256#32
  let v21 : BitVec 32 := Scalar.muli v2 c256_i32_10
  let v219 : Index := Scalar.indexCast v21
  let c0_172 : Index := 0#32
  ![3, v219.toNat, 0]
abbrev stage0_0 : Fin 1 → Memref sig .tc .vmem S4x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x512x16x64 : Shape := ⟨4, ![4, 512, 16, 64]⟩
abbrev S1024x1024 : Shape := ⟨2, ![1024, 1024]⟩
abbrev S4x512x1024 : Shape := ⟨3, ![4, 512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x512x16x64, .f32⟩
  | .hbm, ⟨1, _⟩ => ⟨S1024x1024, .f32⟩
  | .hbm, ⟨2, _⟩ => ⟨S4x512x1024, .f32⟩
  | .hbm, ⟨3, _⟩ => ⟨S4x512x1024, .f32⟩
  | _, _ => ⟨S4x512x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Steps.lean ====
/-
  The kernel body as a chain of steps: the two barrier operations and the load of the weights, then eight
  send steps, four multiply steps, eight receive steps and eight drain steps, each step stated once at a
  variable chunk number.
-/
module

public import proofs.«01_k».proof.Proof.Gen.KernelIdeal.Skeleton

@[expose] public section

noncomputable section

namespace Cert.KernelIdeal.Pair

open Idealize.ShloMosaic Idealize.ShloMosaic.TcCoe Idealize.SL.Sem
open Cert.KernelIdeal Cert.KernelIdeal.Gen

variable {F : FTy → Type} [FloatOps F]

/-- A program of the kernel that returns nothing. -/
abbrev Step (F : FTy → Type) : Type 1 := Prog (TpuEff nD τ sig (Elt F) Λ₀ .tc) PUnit

/-- The five buffers the body names: its block of the activations, the weights, the result, what it sends and
    what it receives. -/
abbrev oM : Memref sig .tc .vmem S4x512x512 .f32 := Memref.whole cc0_stg0_0
abbrev wM : Memref sig .tc .vmem S512x1024 .f32 := Memref.whole cc0_stg1_0
abbrev outM : Memref sig .tc .vmem S4x256x1024 .f32 := Memref.whole cc0_stg2_0
abbrev sndM : Memref sig .tc .vmem S4x256x1024 .f32 := Memref.whole cc0_scratch0
abbrev rcvM : Memref sig .tc .vmem S4x256x1024 .f32 := Memref.whole cc0_scratch1

/-- The barrier semaphore. -/
abbrev barS : Sem sig := (SemArray.scalar (d := ![]) (sig.barrier 0 rfl)).sem

/-! ## Chunks: batch `k / 2`, rows `128 (k % 2) …` of the half block -/

/-- Where chunk `k` starts in a half block. -/
def chOff (k : Fin 8) : Fin 3 → ℕ := ![k.val / 2, 128 * (k.val % 2), 0]
theorem chOff_inb (k : Fin 8) : ∀ a, chOff k a + S1x128x1024.size a ≤ S4x256x1024.size a := by
  revert k; decide
/-- Chunk `k` of a half block. -/
abbrev chRect (k : Fin 8) : Rect S4x256x1024 := Rect.unit (s := S4x256x1024) (chOff k) S1x128x1024.size (chOff_inb k)
/-- Chunk `k` of a buffer, as the copies name it. -/
abbrev chunk (M : Memref sig .tc .vmem S4x256x1024 .f32) (k : Fin 8) : Memref sig .tc .vmem S128x1024 .f32 :=
  (M.slice (chRect k) (fun _ => rfl)).squeeze S128x1024 squeezes_S1x128x1024_S128x1024

/-- Where batch `b` starts in a half block. -/
def btOff (b : Fin 4) : Fin 3 → ℕ := ![b.val, 0, 0]
theorem btOff_inb (b : Fin 4) : ∀ a, btOff b a + S1x256x1024.size a ≤ S4x256x1024.size a := by revert b; decide
/-- Batch `b` of a half block. -/
abbrev btRect (b : Fin 4) : Rect S4x256x1024 := Rect.unit (s := S4x256x1024) (btOff b) S1x256x1024.size (btOff_inb b)

theorem semOff_inb (k : Fin 8) : ∀ a, (![k.val] : Fin 1 → ℕ) a + S1.size a ≤ S8.size a := by revert k; decide
/-- Semaphore `k` of a row of eight. -/
abbrev semAt (A : DmaSems sig S8) (k : Fin 8) : DmaSem sig :=
  ((A.slice (Rect.unit (s := S8) ![k.val] S1.size (semOff_inb k))).squeeze S_ squeezes_S1_S_).sem
/-- The semaphore that counts chunk `k` leaving; the one that counts it arriving. -/
abbrev sendS (k : Fin 8) : DmaSem sig := semAt cc0_scratch2 k
abbrev recvS (k : Fin 8) : DmaSem sig := semAt cc0_scratch3 k

/-- Where the rows of the activations sent in chunk `k` start, as the body computes it. -/
def fromOff (d : Dev nD) (k : Fin 8) : Fin 3 → ℕ :=
  match k with
  | 0 => k0_off1 d 0#32 | 1 => k0_off1 d 128#32
  | 2 => k0_off2 d 0#32 | 3 => k0_off2 d 128#32
  | 4 => k0_off3 d 0#32 | 5 => k0_off3 d 128#32
  | 6 => k0_off4 d 0#32 | 7 => k0_off4 d 128#32
theorem fromOff_inb (d : Dev nD) (k : Fin 8) : ∀ a, fromOff d k a + S1x128x512.size a ≤ S4x512x512.size a :=
  match k with
  | 0 => k0_off1_inb d 0 | 1 => k0_off1_inb d 1
  | 2 => k0_off2_inb d 0 | 3 => k0_off2_inb d 1
  | 4 => k0_off3_inb d 0 | 5 => k0_off3_inb d 1
  | 6 => k0_off4_inb d 0 | 7 => k0_off4_inb d 1
/-- The device chunk `k` is sent to, as the body computes it. -/
def toDev (d : Dev nD) (k : Fin 8) : Dev nD :=
  match k with
  | 0 => ⟨k0_dev2 d, k0_dev2_lt d⟩ | 1 => ⟨k0_dev3 d, k0_dev3_lt d⟩
  | 2 => ⟨k0_dev4 d, k0_dev4_lt d⟩ | 3 => ⟨k0_dev5 d, k0_dev5_lt d⟩
  | 4 => ⟨k0_dev6 d, k0_dev6_lt d⟩ | 5 => ⟨k0_dev7 d, k0_dev7_lt d⟩
  | 6 => ⟨k0_dev8 d, k0_dev8_lt d⟩ | 7 => ⟨k0_dev9 d, k0_dev9_lt d⟩
/-- Where the rows of the activations the body keeps of batch `b` start, as the body computes it. -/
def keepOff (d : Dev nD) (b : Fin 4) : Fin 3 → ℕ :=
  match b with | 0 => k0_off5 d | 1 => k0_off6 d | 2 => k0_off7 d | 3 => k0_off8 d
theorem keepOff_inb (d : Dev nD) (b : Fin 4) : ∀ a, keepOff d b a + S1x256x512.size a ≤ S4x512x512.size a :=
  match b with | 0 => k0_off5_inb d | 1 => k0_off6_inb d | 2 => k0_off7_inb d | 3 => k0_off8_inb d

/-! ## What the steps store -/

/-- The product of 128 rows with the weights. -/
abbrev sendVal (w : Vec F S512x1024 .f32) (v : Vec F S1x128x512 .f32) : FVec F S1x128x1024 .f32 := k0_pay2 w v
/-- The product of 256 rows with the weights. -/
abbrev keepVal (w : Vec F S512x1024 .f32) (v : Vec F S1x256x512 .f32) : FVec F S1x256x1024 .f32 := k0_pay11 (k0_pay1 w) v
/-- The sum of two chunks. -/
abbrev sumVal (x y : Vec F S1x128x1024 .f32) : FVec F S1x128x1024 .f32 := k0_pay17 x y

/-! ## The steps -/

/-- Multiply the rows of chunk `k` by the weights into the send buffer and start copying the chunk to device `p`. -/
def sendTo (p d : Dev nD) (w : Vec F S512x1024 .f32) (k : Fin 8) : Step F := do
  let v : Vec F S1x128x512 .f32 ← Prog.lift (.load oM (Rect.unit (s := S4x512x512) (fromOff d k) S1x128x512.size (fromOff_inb d k)).toLoadRect (View.loadsAt_vmem h_S1x128x512))
  let _u : Vec F S1x128x1024 .f32 ← Prog.lift (.load sndM (chRect k).toLoadRect (View.loadsAt_vmem h_S1x128x1024))
  Prog.lift (.store sndM (chRect k) (sendVal w v) Finset.univ (View.stores_vmem_bits_univ h_S1x128x1024 rfl) (.inl rfl))
  Prog.lift (.enqueueDma (chunk sndM k) (.remote (Dev.tc p) (chunk rcvM k) (.dma (sendS k))) (.dma (recvS k))
    ((View.wordExact_bits rfl).reshape _ _) ((View.wordExact_bits rfl).reshape _ _) ⟨⟨rfl, Or.inl rfl⟩, trivial⟩)
/-- The same to the device the body computes. -/
def sendStep (d : Dev nD) (w : Vec F S512x1024 .f32) (k : Fin 8) : Step F := sendTo (toDev d k) d w k

/-- Multiply the kept rows of batch `b` by the weights into the result. -/
def keepStep (d : Dev nD) (w : Vec F S512x1024 .f32) (b : Fin 4) : Step F := do
  let v : Vec F S1x256x512 .f32 ← Prog.lift (.load oM (Rect.unit (s := S4x512x512) (keepOff d b) S1x256x512.size (keepOff_inb d b)).toLoadRect (View.loadsAt_vmem h_S1x256x512))
  let _u : Vec F S1x256x1024 .f32 ← Prog.lift (.load outM (btRect b).toLoadRect (View.loadsAt_vmem h_S1x256x1024))
  Prog.lift (.store outM (btRect b) (keepVal w v) Finset.univ (View.stores_vmem_bits_univ h_S1x256x1024 rfl) (.inl rfl))

/-- Wait for chunk `k` and add it to the result. -/
def recvStep (k : Fin 8) : Step F := do
  Prog.lift (.waitDma2 (recvS k) (chunk sndM k) (chunk rcvM k) ((View.wordExact_bits rfl).reshape _ _) ((View.wordExact_bits rfl).reshape _ _))
  let x : Vec F S1x128x1024 .f32 ← Prog.lift (.load outM (chRect k).toLoadRect (View.loadsAt_vmem h_S1x128x1024))
  let y : Vec F S1x128x1024 .f32 ← Prog.lift (.load rcvM (chRect k).toLoadRect (View.loadsAt_vmem h_S1x128x1024))
  let _u : Vec F S1x128x1024 .f32 ← Prog.lift (.load outM (chRect k).toLoadRect (View.loadsAt_vmem h_S1x128x1024))
  Prog.lift (.store outM (chRect k) (sumVal x y) Finset.univ (View.stores_vmem_bits_univ h_S1x128x1024 rfl) (.inl rfl))

/-- Wait until chunk `k` has left. -/
def drainStep (k : Fin 8) : Step F :=
  Prog.lift (.waitDma2 (sendS k) (chunk rcvM k) (chunk sndM k) ((View.wordExact_bits rfl).reshape _ _) ((View.wordExact_bits rfl).reshape _ _))

/-- Steps `0 … n - 1` in order, then the rest. -/
def inOrder : (n : ℕ) → (Fin n → Step F) → Step F → Step F
  | 0, _, r => r
  | n + 1, f, r => f 0 >>= fun _ => inOrder n (fun i => f i.succ) r

/-- The body as a chain of steps. -/
def steps : Step F := do
  let d : Dev nD ← Prog.lift .deviceId
  semSignalWord (⟨k0_dev1 d, k0_dev1_lt d⟩ : Dev nD) barS 1#32
  semWaitWord barS 1#32
  let w : Vec F S512x1024 .f32 ← Prog.lift (.load wM (Rect.unit (s := S512x1024) ![0, 0] S512x1024.size inb_S512x1024_S512x1024_0_0).toLoadRect (View.loadsAt_vmem h_S512x1024))
  inOrder 8 (sendStep d w) <| inOrder 4 (keepStep d w) <| inOrder 8 recvStep <| inOrder 8 drainStep <| pure ⟨⟩

set_option maxRecDepth 65536 in
set_option maxHeartbeats 4000000 in
/-- The printed body, on the buffers the call gives it, is the chain of steps. -/
theorem body_eq : cc0_body (F := F) oM (Memref.isWhole_whole _) wM (Memref.isWhole_whole _) outM (Memref.isWhole_whole _)
    sndM (Memref.isWhole_whole _) rcvM (Memref.isWhole_whole _) cc0_scratch2 cc0_scratch3 = steps (F := F) := rfl

end Cert.KernelIdeal.Pair
-- ==== Proof.Common.lean ====
/-
  The protocol between a device and its partner: who the partner is, the semaphore cells the two count on, what
  each chunk and the result hold at every stage, the schedule of payments, and what a device owes at the start.
-/
module

public import proofs.«01_k».proof.Proof.Steps
public import proofs.«01_k».proof.Proof.Gen.KernelIdeal.Launch
public import proofs.«01_k».proof.Proof.Gen.KernelIdeal.Points
public import Idealize.ShloMosaic.Lib.Rounds
public import Idealize.ShloMosaic.Lib.StableHlo
public import Idealize.ShloMosaic.Lib.Tactic
public import Idealize.ShloMosaic.Lib.ViewIndex
public import Idealize.ShloMosaic.Lib.Ring
public import Idealize.ShloMosaic.Lib.Pipeline.Regions
public import Idealize.ShloMosaic.Lib.Pipeline.Kit
public import Idealize.ShloMosaic.Lib.Pipeline.RegionTalk

@[expose] public section

noncomputable section

namespace Cert.KernelIdeal.Pair

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The partner -/

/-- The device that shares every mesh coordinate but `x`. -/
def prt (c : Dev nD) : Dev nD := ⟨(c.val + 16) % 32, Nat.mod_lt _ (by decide)⟩
theorem prt_val (c : Dev nD) : (prt c).val = (c.val + 16) % 32 := rfl
theorem prt_prt (c : Dev nD) : prt (prt c) = c := by revert c; decide
/-- Going to the partner, as a permutation of the devices. -/
def swap : Dev nD ≃ Dev nD := ⟨prt, prt, prt_prt, prt_prt⟩

/-- A device number the body computes by the printed formula is the partner's. -/
theorem dev_eq {c : Dev nD} {n : ℕ} (h : n < nD) (e : n = (4 * ((c.val / 4) % 4) + c.val % 4 + 16) - 16 * (c.val / 16)) :
    (⟨n, h⟩ : Dev nD) = prt c := by
  have hc : c.val < 32 := c.isLt
  apply Fin.ext
  show n = (c.val + 16) % 32
  omega
theorem signalDev_eq (c : Dev nD) : (⟨k0_dev1 c, k0_dev1_lt c⟩ : Dev nD) = prt c := dev_eq _ (k0_dev1_eq c)
theorem toDev_eq (c : Dev nD) : ∀ k, toDev c k = prt c
  | 0 => dev_eq _ (k0_dev2_eq c) | 1 => dev_eq _ (k0_dev3_eq c)
  | 2 => dev_eq _ (k0_dev4_eq c) | 3 => dev_eq _ (k0_dev5_eq c)
  | 4 => dev_eq _ (k0_dev6_eq c) | 5 => dev_eq _ (k0_dev7_eq c)
  | 6 => dev_eq _ (k0_dev8_eq c) | 7 => dev_eq _ (k0_dev9_eq c)

/-- Chunk `k` is made of batch `k / 2` and of 128 rows of the partner's half of the sequence. -/
theorem fromOff_eq (c : Dev nD) : ∀ k, fromOff c k = ![k.val / 2, (128 * (k.val % 2) + 256) - 256 * (c.val / 16), 0]
  | 0 => k0_off1_eq c 0 | 1 => k0_off1_eq c 1
  | 2 => k0_off2_eq c 0 | 3 => k0_off2_eq c 1
  | 4 => k0_off3_eq c 0 | 5 => k0_off3_eq c 1
  | 6 => k0_off4_eq c 0 | 7 => k0_off4_eq c 1
/-- The kept rows of batch `b` are the own half of the sequence. -/
theorem keepOff_eq (c : Dev nD) : ∀ b, keepOff c b = ![b.val, 256 * (c.val / 16), 0]
  | 0 => k0_off5_eq c | 1 => k0_off6_eq c | 2 => k0_off7_eq c | 3 => k0_off8_eq c

/-! ## The chunk an index lies in -/

theorem half_lt0 (i : S4x256x1024.Idx) : (i 0).val < 4 := (i 0).isLt
theorem half_lt1 (i : S4x256x1024.Idx) : (i 1).val < 256 := (i 1).isLt
theorem half_lt2 (i : S4x256x1024.Idx) : (i 2).val < 1024 := (i 2).isLt

/-- The chunk that holds index `i` of a half block. -/
def chOf (i : S4x256x1024.Idx) : Fin 8 := ⟨2 * (i 0).val + (i 1).val / 128, by have := half_lt0 i; have := half_lt1 i; omega⟩
/-- Where in its chunk index `i` lies. -/
def inCh (i : S4x256x1024.Idx) : S1x128x1024.Idx
  | 0 => (⟨0, by decide⟩ : Fin 1)
  | 1 => (⟨(i 1).val % 128, Nat.mod_lt _ (by decide)⟩ : Fin 128)
  | 2 => (⟨(i 2).val, half_lt2 i⟩ : Fin 1024)
/-- The batch of index `i`. -/
def btOf (i : S4x256x1024.Idx) : Fin 4 := ⟨(i 0).val, half_lt0 i⟩
/-- Where in its batch index `i` lies. -/
def inBt (i : S4x256x1024.Idx) : S1x256x1024.Idx
  | 0 => (⟨0, by decide⟩ : Fin 1)
  | 1 => (⟨(i 1).val, half_lt1 i⟩ : Fin 256)
  | 2 => (⟨(i 2).val, half_lt2 i⟩ : Fin 1024)

theorem emb_val {s : Shape} (off size : Fin s.rank → ℕ) (inb) (j : (Rect.unit (s := s) off size inb).shape.Idx) (a : Fin s.rank) :
    ((Rect.unit (s := s) off size inb).emb j a).val = off a + (j a).val := by
  rw [Rect.emb_apply]; simp

theorem chOf_emb (k : Fin 8) (x : (chRect k).shape.Idx) : chOf ((chRect k).emb x) = k := by
  have h0 : (x 0).val < 1 := (x 0).isLt
  have h1 : (x 1).val < 128 := (x 1).isLt
  have e0 : ((chRect k).emb x 0).val = k.val / 2 + (x 0).val := emb_val _ _ _ x 0
  have e1 : ((chRect k).emb x 1).val = 128 * (k.val % 2) + (x 1).val := emb_val _ _ _ x 1
  apply Fin.ext
  show 2 * ((chRect k).emb x 0).val + ((chRect k).emb x 1).val / 128 = k.val
  rw [e0, e1]; omega
theorem inCh_emb (k : Fin 8) (x : (chRect k).shape.Idx) : inCh ((chRect k).emb x) = x := by
  have h0 : (x 0).val < 1 := (x 0).isLt
  have h1 : (x 1).val < 128 := (x 1).isLt
  have e1 : ((chRect k).emb x 1).val = 128 * (k.val % 2) + (x 1).val := emb_val _ _ _ x 1
  have e2 : ((chRect k).emb x 2).val = 0 + (x 2).val := emb_val _ _ _ x 2
  refine Shape.idx3_ext ?_ ?_ ?_
  · show 0 = (x 0).val; omega
  · show ((chRect k).emb x 1).val % 128 = (x 1).val; rw [e1]; omega
  · show ((chRect k).emb x 2).val = (x 2).val; rw [e2]; omega
theorem btOf_emb (b : Fin 4) (x : (btRect b).shape.Idx) : btOf ((btRect b).emb x) = b := by
  have h0 : (x 0).val < 1 := (x 0).isLt
  have e0 : ((btRect b).emb x 0).val = b.val + (x 0).val := emb_val _ _ _ x 0
  apply Fin.ext
  show ((btRect b).emb x 0).val = b.val
  rw [e0]; omega
theorem inBt_emb (b : Fin 4) (x : (btRect b).shape.Idx) : inBt ((btRect b).emb x) = x := by
  have h0 : (x 0).val < 1 := (x 0).isLt
  have e1 : ((btRect b).emb x 1).val = 0 + (x 1).val := emb_val _ _ _ x 1
  have e2 : ((btRect b).emb x 2).val = 0 + (x 2).val := emb_val _ _ _ x 2
  refine Shape.idx3_ext ?_ ?_ ?_
  · show 0 = (x 0).val; omega
  · show ((btRect b).emb x 1).val = (x 1).val; rw [e1]; omega
  · show ((btRect b).emb x 2).val = (x 2).val; rw [e2]; omega

/-- An index lies in chunk `k` just when its chunk is `k`. -/
theorem mem_chRect (k : Fin 8) (i : S4x256x1024.Idx) : i ∈ (chRect k).set ↔ chOf i = k := by
  have a0 := half_lt0 i; have a1 := half_lt1 i; have a2 := half_lt2 i
  rw [Rect.mem_set_unit]
  constructor
  · intro h
    have h0 : k.val / 2 ≤ (i 0).val ∧ (i 0).val < k.val / 2 + 1 := h 0
    have h1 : 128 * (k.val % 2) ≤ (i 1).val ∧ (i 1).val < 128 * (k.val % 2) + 128 := h 1
    apply Fin.ext
    show 2 * (i 0).val + (i 1).val / 128 = k.val
    omega
  · rintro rfl
    intro a
    have e : (chOf i).val = 2 * (i 0).val + (i 1).val / 128 := rfl
    fin_cases a
    · show (chOf i).val / 2 ≤ (i 0).val ∧ (i 0).val < (chOf i).val / 2 + 1; omega
    · show 128 * ((chOf i).val % 2) ≤ (i 1).val ∧ (i 1).val < 128 * ((chOf i).val % 2) + 128; omega
    · show 0 ≤ (i 2).val ∧ (i 2).val < 0 + 1024; omega
/-- An index lies in batch `b` just when its batch is `b`. -/
theorem mem_btRect (b : Fin 4) (i : S4x256x1024.Idx) : i ∈ (btRect b).set ↔ btOf i = b := by
  have a0 := half_lt0 i; have a1 := half_lt1 i; have a2 := half_lt2 i
  rw [Rect.mem_set_unit]
  constructor
  · intro h
    have h0 : b.val ≤ (i 0).val ∧ (i 0).val < b.val + 1 := h 0
    apply Fin.ext
    show (i 0).val = b.val
    omega
  · rintro rfl
    intro a
    have e : (btOf i).val = (i 0).val := rfl
    fin_cases a
    · show (btOf i).val ≤ (i 0).val ∧ (i 0).val < (btOf i).val + 1; omega
    · show 0 ≤ (i 1).val ∧ (i 1).val < 0 + 256; omega
    · show 0 ≤ (i 2).val ∧ (i 2).val < 0 + 1024; omega

/-! ## Contents -/

section Contents

variable (A : Dev nD → Vec F S4x512x512 .f32) (B : Dev nD → Vec F S512x1024 .f32)

/-- The rows device `c` multiplies for chunk `k`; those it keeps of batch `b`. -/
def fromRows (c : Dev nD) (k : Fin 8) : Vec F S1x128x512 .f32 :=
  fun x => A c ((Rect.unit (s := S4x512x512) (fromOff c k) S1x128x512.size (fromOff_inb c k)).emb x)
def keepRows (c : Dev nD) (b : Fin 4) : Vec F S1x256x512 .f32 :=
  fun x => A c ((Rect.unit (s := S4x512x512) (keepOff c b) S1x256x512.size (keepOff_inb c b)).emb x)

/-- What device `c` sends: the products for its partner's half of the sequence. -/
def sent (c : Dev nD) : Vec F S4x256x1024 .f32 := fun i => sendVal (B c) (fromRows A c (chOf i)) (inCh i)
/-- What device `c` keeps: the products for its own half. -/
def kept (c : Dev nD) : Vec F S4x256x1024 .f32 := fun i => keepVal (B c) (keepRows A c (btOf i)) (inBt i)
/-- The result on device `c`: what it keeps and what its partner sends, added. -/
def total (c : Dev nD) : Vec F S4x256x1024 .f32 := fun i => FloatOps.addf (kept A B c i) (sent A B (prt c) i)

/-- The result after the first `n` batches are multiplied; after the first `n` chunks are added. -/
def keepStage (c : Dev nD) (f : Vec F S4x256x1024 .f32) (n : ℕ) : Vec F S4x256x1024 .f32 :=
  fun i => if (btOf i).val < n then kept A B c i else f i
def sumStage (c : Dev nD) (n : ℕ) : Vec F S4x256x1024 .f32 :=
  fun i => if (chOf i).val < n then total A B c i else kept A B c i

theorem keepStage_zero (c : Dev nD) (f : Vec F S4x256x1024 .f32) : keepStage A B c f 0 = f :=
  funext fun i => if_neg (Nat.not_lt_zero _)
theorem keepStage_all (c : Dev nD) (f : Vec F S4x256x1024 .f32) : keepStage A B c f 4 = kept A B c :=
  funext fun i => if_pos (btOf i).isLt
theorem sumStage_zero (c : Dev nD) : sumStage A B c 0 = kept A B c := funext fun i => if_neg (Nat.not_lt_zero _)
theorem sumStage_all (c : Dev nD) : sumStage A B c 8 = total A B c := funext fun i => if_pos (chOf i).isLt

end Contents

/-! ## The algebra: one copy for the staged windows, one for the protocol -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## Cells -/

abbrev barCell (c : Dev nD) : GSem nD τ sig := ((c : Thread nD τ), .reg barS)
abbrev sendCell (c : Dev nD) (k : Fin 8) : GSem nD τ sig := ((c : Thread nD τ), .dma (sendS k))
abbrev recvCell (c : Dev nD) (k : Fin 8) : GSem nD τ sig := ((c : Thread nD τ), .dma (recvS k))

/-- What a semaphore is for. -/
inductive Role where
  | bar
  | send (k : Fin 8)
  | recv (k : Fin 8)
  | other
  deriving DecidableEq

/-- Read off the semaphore's number. -/
def role : SemLoc sig → Role
  | .reg s => if s = barS then .bar else .other
  | .dma s => if h : 3 ≤ s.val ∧ s.val < 11 then .send ⟨s.val - 3, by omega⟩
      else if h : 11 ≤ s.val ∧ s.val < 19 then .recv ⟨s.val - 11, by omega⟩ else .other
theorem role_bar : role (.reg barS) = .bar := by decide
theorem role_send (k : Fin 8) : role (.dma (sendS k)) = .send k := by revert k; decide
theorem role_recv (k : Fin 8) : role (.dma (recvS k)) = .recv k := by revert k; decide

/-- How much one chunk's copy pays. -/
abbrev N : ℕ := (chunk rcvM 0).view.dmaCredit
theorem N_pos : 0 < N := View.dmaCredit_pos _ (by decide)

/-! ## Buffers held -/

/-- Chunk `k` of the buffer device `c` sends from; of the one it receives in. -/
abbrev sndPts (c : Dev nD) (k : Fin 8) (f : Vec F S4x256x1024 .f32) : sProp 𝕄 :=
  (chunk sndM k).view.loc (c : Thread nD τ) ↦[(chunk sndM k).view.set]{fullShare} f
abbrev rcvPts (c : Dev nD) (k : Fin 8) (f : Vec F S4x256x1024 .f32) : sProp 𝕄 :=
  (chunk rcvM k).view.loc (c : Thread nD τ) ↦[(chunk rcvM k).view.set]{fullShare} f

/-! ## The schedule -/

section Sched

variable (A : Dev nD → Vec F S4x512x512 .f32) (B : Dev nD → Vec F S512x1024 .f32)

/-- Paid to device `c`'s barrier: its partner's receive buffer, chunk by chunk, and that the partner counts on. -/
def barPay (c : Dev nD) : sProp 𝕄 :=
  bigSep Finset.univ fun k : Fin 8 => iprop((∃ f, rcvPts (prt c) k f) ∗ reached ER (recvCell (prt c) k) 0)

/-- One payment on the barrier and on the semaphore of every chunk sent or received: the barrier's brings the
    partner's receive buffer, a send semaphore's brings the chunk back, a receive semaphore's brings the own chunk
    holding what the partner sent. -/
def rounds : Rounds.Schedule (GSem nD τ sig) Unit 𝕄 where
  duties g r := if r = 0 ∧ g.1.2 = .tc ∧ role g.2 ≠ .other then {()} else ∅
  unitless _ := False
  amount g _ _ := if role g.2 = .bar then 1 else N
  payload g _ _ := match role g.2 with
    | .bar => barPay g.1.1
    | .send k => sndPts g.1.1 k (sent A B g.1.1)
    | .recv k => rcvPts g.1.1 k (sent A B (prt g.1.1))
    | .other => iprop(emp)
  amount_pos g _ _ _ := by
    by_cases h : role g.2 = .bar
    · rw [if_pos h]; exact Nat.one_pos
    · rw [if_neg h]; exact N_pos

instance rounds_storable (g : GSem nD τ sig) (r : ℕ) (d : Unit) :
    BI.Storable (upEmb : UEmb _ 𝕄) ((rounds A B).payload g r d) := by
  show BI.Storable upEmb (match role g.2 with
    | .bar => barPay g.1.1
    | .send k => sndPts g.1.1 k (sent A B g.1.1)
    | .recv k => rcvPts g.1.1 k (sent A B (prt g.1.1))
    | .other => iprop(emp))
  unfold barPay
  split <;> infer_instance

variable (c : Dev nD) (k : Fin 8)

/-- Round 0 of every cell of the protocol asks for one payment; no later round asks for any. -/
theorem duties_of {g : GSem nD τ sig} (h1 : g.1.2 = .tc) (h2 : role g.2 ≠ .other) : (rounds A B).duties g 0 = {()} :=
  if_pos ⟨rfl, h1, h2⟩
theorem duties_later (g : GSem nD τ sig) : ∀ r, 1 ≤ r → (rounds A B).duties g r = ∅ :=
  fun r hr => if_neg fun h => by omega
theorem duties_bar : (rounds A B).duties (barCell c) 0 = {()} := duties_of A B rfl (by rw [role_bar]; decide)
theorem duties_send : (rounds A B).duties (sendCell c k) 0 = {()} := duties_of A B rfl (by rw [role_send]; exact nofun)
theorem duties_recv : (rounds A B).duties (recvCell c k) 0 = {()} := duties_of A B rfl (by rw [role_recv]; exact nofun)

theorem amount_bar (u : Unit) : (rounds A B).amount (barCell c) 0 u = 1 := by dsimp only [rounds]; exact if_pos role_bar
theorem amount_send (u : Unit) : (rounds A B).amount (sendCell c k) 0 u = N := by
  dsimp only [rounds]; exact if_neg (by rw [role_send]; exact nofun)
theorem amount_recv (u : Unit) : (rounds A B).amount (recvCell c k) 0 u = N := by
  dsimp only [rounds]; exact if_neg (by rw [role_recv]; exact nofun)

theorem expect_of {g : GSem nD τ sig} {n : ℕ} (h : (rounds A B).duties g 0 = {()}) (h' : (rounds A B).amount g 0 () = n) :
    (rounds A B).expect g 0 = n := by
  unfold Schedule.expect Schedule.amountOf; rw [h, Finset.sum_singleton, h']
theorem expect_bar : (rounds A B).expect (barCell c) 0 = 1 := expect_of A B (duties_bar A B c) (amount_bar A B c ())
theorem expect_send : (rounds A B).expect (sendCell c k) 0 = N := expect_of A B (duties_send A B c k) (amount_send A B c k ())
theorem expect_recv : (rounds A B).expect (recvCell c k) 0 = N := expect_of A B (duties_recv A B c k) (amount_recv A B c k ())

theorem payload_bar (u : Unit) : (rounds A B).payload (barCell c) 0 u = barPay c := by
  dsimp only [rounds]; rw [role_bar]
theorem payload_send (u : Unit) : (rounds A B).payload (sendCell c k) 0 u = sndPts c k (sent A B c) := by
  dsimp only [rounds]; rw [role_send]
theorem payload_recv (u : Unit) : (rounds A B).payload (recvCell c k) 0 u = rcvPts c k (sent A B (prt c)) := by
  dsimp only [rounds]; rw [role_recv]

/-- What a wait for the whole of round 0 hands over. -/
theorem rest_of {g : GSem nD τ sig} {P : sProp 𝕄} (h : (rounds A B).duties g 0 = {()}) (h' : (rounds A B).payload g 0 () = P) :
    bigSep ((rounds A B).duties g 0 \ ∅) (fun u => (rounds A B).payload g 0 u) = P := by
  rw [Finset.sdiff_empty, h, bigSep_singleton, h']
theorem rest_bar : bigSep ((rounds A B).duties (barCell c) 0 \ ∅) (fun u => (rounds A B).payload (barCell c) 0 u) = barPay c :=
  rest_of A B (duties_bar A B c) (payload_bar A B c ())
theorem rest_send : bigSep ((rounds A B).duties (sendCell c k) 0 \ ∅) (fun u => (rounds A B).payload (sendCell c k) 0 u)
    = sndPts c k (sent A B c) := rest_of A B (duties_send A B c k) (payload_send A B c k ())
theorem rest_recv : bigSep ((rounds A B).duties (recvCell c k) 0 \ ∅) (fun u => (rounds A B).payload (recvCell c k) 0 u)
    = rcvPts c k (sent A B (prt c)) := rest_of A B (duties_recv A B c k) (payload_recv A B c k ())

end Sched

/-! ## What a device owes -/

/-- What device `c` still owes its partner's receive semaphores once it has sent the first `n` chunks. -/
def owe (c : Dev nD) (n : ℕ) : CellTallies nD τ sig Unit :=
  ∑ j ∈ Finset.univ.filter fun j : Fin 8 => n ≤ j.val, tallyAt (recvCell (prt c) j) () N
theorem owe_step (c : Dev nD) (k : Fin 8) : owe c k.val = owe c (k.val + 1) + tallyAt (recvCell (prt c) k) () N := by
  unfold owe
  rw [show (Finset.univ.filter fun j : Fin 8 => k.val ≤ j.val) = insert k (Finset.univ.filter fun j : Fin 8 => k.val + 1 ≤ j.val) from by
      ext j; simp only [Finset.mem_filter, Finset.mem_univ, true_and, Finset.mem_insert, Fin.ext_iff]; omega,
    Finset.sum_insert (by simp), add_comm]
theorem owe_all (c : Dev nD) : owe c 8 = 0 := by
  unfold owe
  rw [Finset.filter_eq_empty_iff.mpr (fun j _ => by have := j.isLt; omega), Finset.sum_empty]
/-- What device `c` owes at launch: its partner's eight chunks and the partner's barrier. -/
def O₀ (c : Dev nD) : CellTallies nD τ sig Unit := owe c 0 + tallyAt (barCell (prt c)) () 1

theorem owe_pos {c : Dev nD} {n : ℕ} {g : GSem nD τ sig} {u : Unit} (h : 0 < owe c n g u) : ∃ k, g = recvCell (prt c) k := by
  unfold owe at h
  rw [Finset.sum_apply, Finsupp.finset_sum_apply] at h
  obtain ⟨j, -, hj⟩ := Finset.exists_ne_zero_of_sum_ne_zero (Nat.pos_iff_ne_zero.mp h)
  refine ⟨j, ?_⟩
  rw [tallyAt_apply] at hj
  by_contra hg
  exact hj (if_neg fun e => hg e.1)
theorem O₀_pos {c : Dev nD} {g : GSem nD τ sig} {u : Unit} (h : 0 < O₀ c g u) :
    (∃ k, g = recvCell (prt c) k) ∨ g = barCell (prt c) := by
  unfold O₀ at h
  rw [Pi.add_apply, Finsupp.add_apply] at h
  rcases Nat.add_pos_iff_pos_or_pos.mp h with h | h
  · exact .inl (owe_pos h)
  · rw [tallyAt_apply] at h
    by_contra hg
    rw [if_neg fun e => hg (.inr e.1)] at h
    exact absurd h (Nat.lt_irrefl 0)

/-- Every semaphore of a device's core is waited on under the one index there is. -/
def L (g : GSem nD τ sig) : Finset Unit := if g.1.2 = .tc then {()} else ∅
/-- The barrier comes before the chunks. -/
def lv (g : GSem nD τ sig) (_ : Unit) : ℕ := match role g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem mem_L (c : Dev nD) (sm : SemLoc sig) (u : Unit) : u ∈ L ((c : Thread nD τ), sm) := by
  rw [L_tc]; exact Finset.mem_singleton_self _
theorem lv_bar (c : Dev nD) (u : Unit) : lv (barCell c) u = 1 := by dsimp only [lv]; rw [role_bar]
theorem lv_recv (c : Dev nD) (k : Fin 8) (u : Unit) : lv (recvCell c k) u = 2 := by dsimp only [lv]; rw [role_recv]

/-- Device `c` may wait on its barrier while it owes its partner's chunks. -/
theorem mayWait_bar (c : Dev nD) :
    (levAts L lv : sProp 𝕄) ⊢ MayWait (c : Thread nD τ) (.reg barS) () (owe c 0) :=
  MayOwe.of_cut (L := L) (lev := lv) 1 (fun p hp => by rw [Finset.mem_singleton.mp hp]; exact mem_L c _ _)
    (fun g u hg => by obtain ⟨k, rfl⟩ := owe_pos hg; exact mem_L _ _ _)
    (fun p hp => by rw [Finset.mem_singleton.mp hp]; exact (lv_bar c _).le)
    (fun g u hg => by obtain ⟨k, rfl⟩ := owe_pos hg; rw [lv_recv]; decide)

/-! ## The protocol's ghost state -/

section Ghost

variable (A : Dev nD → Vec F S4x512x512 .f32) (B : Dev nD → Vec F S512x1024 .f32)

/-- The invariant of one cell. -/
abbrev inv (K : GSem nD τ sig → ℕ) (g : GSem nD τ sig) : sProp 𝕄 := cellInv ER (rounds A B) (K g) g

/-- The invariants device `c` opens: of its own cells, of its partner's barrier and of its partner's receive cells. -/
def invs (K : GSem nD τ sig → ℕ) (c : Dev nD) : sProp 𝕄 :=
  iprop(inv A B K (barCell c) ∗ inv A B K (barCell (prt c))
    ∗ (bigSep Finset.univ fun k : Fin 8 => inv A B K (sendCell c k)) ∗ (bigSep Finset.univ fun k : Fin 8 => inv A B K (recvCell c k))
    ∗ bigSep Finset.univ fun k : Fin 8 => inv A B K (recvCell (prt c) k))

instance invs_persistent (K : GSem nD τ sig → ℕ) (c : Dev nD) : BI.Persistent (invs A B K c) := by unfold invs; infer_instance

/-- What device `c` pays for one chunk with. -/
abbrev toks (c : Dev nD) (k : Fin 8) : sProp 𝕄 := iprop(dutyTok ER (sendCell c k) 0 () ∗ dutyTok ER (recvCell (prt c) k) 0 ())

/-- What device `c` holds of the protocol from launch on: its place at its barrier, the right to open its send and
    receive cells, and everything it pays with. -/
def ghost (K : GSem nD τ sig → ℕ) (c : Dev nD) : sProp 𝕄 :=
  iprop(invs A B K c ∗ atPos ER (barCell c) 0 ∅ 0 ∗ reached ER (barCell (prt c)) 0 ∗ dutyTok ER (barCell (prt c)) 0 ()
    ∗ (bigSep Finset.univ fun k : Fin 8 => iprop(openTok ER (sendCell c k) ∗ openTok ER (recvCell c k)))
    ∗ bigSep Finset.univ (toks c))

/-- What device `c` stands at on chunk `k` once its cells are open. -/
abbrev place (c : Dev nD) (k : Fin 8) : sProp 𝕄 :=
  iprop(atPos ER (sendCell c k) 0 ∅ 0 ∗ reached ER (sendCell c k) 0 ∗ atPos ER (recvCell c k) 0 ∅ 0 ∗ reached ER (recvCell c k) 0)

/-- The same with the send and receive cells open. -/
def opened (K : GSem nD τ sig → ℕ) (c : Dev nD) : sProp 𝕄 :=
  iprop(invs A B K c ∗ atPos ER (barCell c) 0 ∅ 0 ∗ reached ER (barCell (prt c)) 0 ∗ dutyTok ER (barCell (prt c)) 0 ()
    ∗ bigSep Finset.univ (place c) ∗ bigSep Finset.univ (toks c))

/-- A cell whose one payment is taken gives its counter back at zero. -/
theorem close (κ : ℕ) (g : GSem nD τ sig) :
    iprop(cellInv ER (rounds A B) κ g ∗ atPos ER g (0 + 1) ∅ 0) ⊢ (|={Set.univ}=> semVal g 0 : sProp 𝕄) :=
  Rounds.cell_close ER (rounds A B) (Set.mem_univ κ) id (duties_later A B g)

end Ghost

abbrev 𝒱₀ : Variants := Variants.none

end Cert.KernelIdeal.Pair
-- ==== Proof.Body.lean ====
/-
  The run of the body: one lemma per kind of step at a variable chunk number, a rule that chains the steps of a
  loop, and from them what the whole body does.
-/
module

public import proofs.«01_k».proof.Proof.Common

@[expose] public section

noncomputable section

namespace Cert.KernelIdeal.Pair

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- Running a piece of the body on device `c`. -/
abbrev wpB (c : Dev nD) (p : Step F) (Q : PUnit → sProp 𝕄) : sProp 𝕄 :=
  wp frame (wpE (defs₀ (F := F)) 𝒱₀ (c : Thread nD τ) none) Set.univ p Q

/-- Of a statement for every chunk, the one for chunk `k`. -/
theorem at_chunk (Φ : Fin 8 → sProp 𝕄) (k : Fin 8) : (bigSep Finset.univ Φ : sProp 𝕄) ⊢ Φ k := bigSep_elim (Finset.mem_univ k)

/-! ## Chaining the steps of a loop -/

/-- A separating conjunction over `0 … n` is its first member and the rest. -/
theorem bigSep_first {n : ℕ} (Φ : Fin (n + 1) → sProp 𝕄) :
    bigSep Finset.univ Φ = iprop(Φ 0 ∗ bigSep Finset.univ fun i : Fin n => Φ i.succ) := by
  rw [Fin.univ_succ, Finset.cons_eq_insert, BI.bigSep_insert (by simp), bigSep_map]
  rfl

/-- If step `k` turns `todo k` and the state after `k` steps into `did k` and the state after `k + 1` steps,
    then the loop turns all `todo`s and the first state into all `did`s and the last state. -/
theorem wp_inOrder (c : Dev nD) (R : sProp 𝕄) [BI.Persistent R] (rest : Step F) (Q : PUnit → sProp 𝕄) :
    ∀ (n : ℕ) (f : Fin n → Step F) (todo did : Fin n → sProp 𝕄) (C : ℕ → sProp 𝕄)
      (_ : ∀ k, iprop(R ∗ todo k ∗ C k.val) ⊢ wpB c (f k) fun _ => iprop(did k ∗ C (k.val + 1))),
      iprop(R ∗ bigSep Finset.univ todo ∗ C 0 ∗ (bigSep Finset.univ did -∗ C n -∗ wpB c rest Q))
        ⊢ wpB c (inOrder n f rest) Q
  | 0, f, todo, did, C, _ => by
    iintro ⟨-, -, HC, Hk⟩
    iapply Hk $$ [] [HC]
    · rw [Finset.univ_eq_empty, bigSep_empty]; iempintro
    · iexact HC
  | n + 1, f, todo, did, C, h => by
    have ih := wp_inOrder c R rest Q n (fun i => f i.succ) (fun i => todo i.succ) (fun i => did i.succ) (fun j => C (j + 1))
      (fun k => h k.succ)
    have h0 : iprop(R ∗ todo 0 ∗ C 0) ⊢ wpB c (f 0) fun _ => iprop(did 0 ∗ C (0 + 1)) := h 0
    rw [bigSep_first todo, bigSep_first did]
    unfold inOrder wpB
    rw [wp_bind]
    iintro ⟨#HR, ⟨H0, Ht⟩, HC, Hk⟩
    iapply (wp_wand (wpE := wpE (defs₀ (F := F)) 𝒱₀ (c : Thread nD τ) none)) $$ [H0 HC]
    · iapply h0
      isplitr; · iexact HR
      isplitl [H0]; · iexact H0
      iexact HC
    iintro %u ⟨Hd, HC⟩
    iapply ih
    isplitr; · iexact HR
    isplitl [Ht]; · iexact Ht
    isplitl [HC]; · iexact HC
    iintro Hds HC
    iapply Hk $$ [Hd Hds] [HC]
    · isplitl [Hd]; · iexact Hd
      iexact Hds
    · iexact HC

/-! ## What a store and a copy leave -/

/-- A chunk is the same set of elements however it is named. -/
theorem snd_set (k : Fin 8) : (chunk sndM k).view.set = (chRect k).set :=
  ((View.set_reshape _ _).trans (View.set_slice_whole cc0_scratch0 (chRect k)))
theorem rcv_set (k : Fin 8) : (chunk rcvM k).view.set = (chRect k).set :=
  ((View.set_reshape _ _).trans (View.set_slice_whole cc0_scratch1 (chRect k)))

theorem exists_emb {s : Shape} {r : Rect s} {i : s.Idx} (h : i ∈ r.set) : ∃ x, r.emb x = i := by
  rw [← Rect.map_emb_univ] at h
  obtain ⟨x, -, hx⟩ := Finset.mem_map.mp h
  exact ⟨x, hx⟩

/-- Storing `w` over chunk `k` leaves any contents that agree with `w` there. -/
theorem stored_snd (k : Fin 8) (f g : Vec F S4x256x1024 .f32) (w : Vec F S1x128x1024 .f32)
    (h : ∀ i, chOf i = k → g i = w (inCh i)) :
    ∀ i ∈ (chunk sndM k).view.set, (sndM.access (chRect k)).write (Elt F) f w Finset.univ i = g i := by
  intro i hi
  rw [snd_set] at hi
  obtain ⟨x, rfl⟩ := exists_emb hi
  refine ((View.write_emb_of_mem (v := sndM.access (chRect k)) f w (Finset.mem_univ x)).trans ?_)
  rw [h _ (chOf_emb k x), inCh_emb]; rfl

/-- Copying a chunk from one device's send buffer leaves it in the other's receive buffer. -/
theorem copied (k : Fin 8) (fd fs : Vec F S4x256x1024 .f32) :
    ∀ i ∈ (chunk rcvM k).view.set, (chunk rcvM k).view.write (Elt F) fd ((chunk sndM k).view.read (Elt F) fs) Finset.univ i = fs i := by
  intro i hi
  obtain ⟨x, -, rfl⟩ := Finset.mem_map.mp hi
  exact (View.write_emb_of_mem (v := (chunk rcvM k).view) fd _ (Finset.mem_univ x)).trans rfl

/-- Storing over a block of the result changes the block and nothing else. -/
theorem stored_out (r : Rect S4x256x1024) (f g : Vec F S4x256x1024 .f32) (w : r.shape.Idx → Elt F .f32)
    (hin : ∀ x, g (r.emb x) = w x) (hout : ∀ i, i ∉ r.set → g i = f i) :
    (outM.access r).write (Elt F) f w Finset.univ = g := by
  funext i
  by_cases hi : i ∈ r.set
  · obtain ⟨x, rfl⟩ := exists_emb hi
    exact (View.write_emb_of_mem (v := outM.access r) f w (Finset.mem_univ x)).trans (hin x).symm
  · refine (View.write_of_not_mem (v := outM.access r) f w Finset.univ ?_).trans (hout i hi).symm
    rw [View.setOn_univ]; exact fun h => hi (View.set_slice_whole cc0_stg2_0 r ▸ h)

section Steps

variable (A : Dev nD → Vec F S4x512x512 .f32) (B : Dev nD → Vec F S512x1024 .f32)

/-- Multiplying batch `b` moves the result one stage on. -/
theorem keepStage_step (c : Dev nD) (f : Vec F S4x256x1024 .f32) (b : Fin 4) :
    (outM.access (btRect b)).write (Elt F) (keepStage A B c f b.val) (keepVal (B c)
        ((oM.access (Rect.unit (s := S4x512x512) (keepOff c b) S1x256x512.size (keepOff_inb c b))).read (Elt F) (A c))) Finset.univ
      = keepStage A B c f (b.val + 1) := by
  refine stored_out _ _ _ _ (fun x => ?_) (fun i hi => ?_)
  · unfold keepStage
    rw [if_pos (by rw [btOf_emb]; exact Nat.lt_succ_self _)]
    unfold kept; rw [btOf_emb, inBt_emb]; rfl
  · have hne : (btOf i).val ≠ b.val := fun h => hi ((mem_btRect b i).mpr (Fin.ext h))
    unfold keepStage
    by_cases h : (btOf i).val < b.val
    · rw [if_pos h, if_pos (by omega)]
    · rw [if_neg h, if_neg (by omega)]

/-- The sum of two chunks is taken entry by entry. -/
theorem sumVal_apply (u v : Vec F S1x128x1024 .f32) (x : S1x128x1024.Idx) : sumVal u v x = FloatOps.addf (u x) (v x) := by
  have e : Shape.reshapeEquiv shapeCasts_S1x128x1024_S128x1024 (Shape.reshapeEquiv shapeCasts_S128x1024_S1x128x1024 x) = x :=
    Shape.reshapeEquiv_eq_of_rowMajor _ (Shape.rowMajor_reshapeEquiv _ x).symm
  show FloatOps.addf (u (Shape.reshapeEquiv _ (Shape.reshapeEquiv _ x))) (v (Shape.reshapeEquiv _ (Shape.reshapeEquiv _ x))) = _
  rw [e]

/-- Adding chunk `k` moves the result one stage on. -/
theorem sumStage_step (c : Dev nD) (k : Fin 8) :
    (outM.access (chRect k)).write (Elt F) (sumStage A B c k.val)
        (sumVal ((outM.access (chRect k)).read (Elt F) (sumStage A B c k.val)) ((rcvM.access (chRect k)).read (Elt F) (sent A B (prt c)))) Finset.univ
      = sumStage A B c (k.val + 1) := by
  refine stored_out _ _ _ _ (fun x => ?_) (fun i hi => ?_)
  · have e : sumStage A B c k.val ((chRect k).emb x) = kept A B c ((chRect k).emb x) := by
      unfold sumStage; rw [if_neg (by rw [chOf_emb]; exact Nat.lt_irrefl _)]
    have e' : sumStage A B c (k.val + 1) ((chRect k).emb x) = total A B c ((chRect k).emb x) := by
      unfold sumStage; rw [if_pos (by rw [chOf_emb]; exact Nat.lt_succ_self _)]
    rw [e', sumVal_apply]
    show FloatOps.addf _ _ = FloatOps.addf (sumStage A B c k.val ((chRect k).emb x)) (sent A B (prt c) ((chRect k).emb x))
    rw [e]
  · have hne : (chOf i).val ≠ k.val := fun h => hi ((mem_chRect k i).mpr (Fin.ext h))
    unfold sumStage
    by_cases h : (chOf i).val < k.val
    · rw [if_pos h, if_pos (by omega)]
    · rw [if_neg h, if_neg (by omega)]

/-- Every chunk of either buffer counts alike. -/
theorem credit_rcv (k : Fin 8) : (chunk rcvM k).view.dmaCredit = N := rfl
theorem credit_snd (k : Fin 8) : (chunk sndM k).view.dmaCredit = N := rfl

/-! ## The steps -/

/-- The activations on device `c`; the weights; the result at contents `f`. -/
abbrev actPts (c : Dev nD) : sProp 𝕄 := oM.view.loc (c : Thread nD τ) ↦{fullShare} A c
abbrev wgtPts (c : Dev nD) : sProp 𝕄 := wM.view.loc (c : Thread nD τ) ↦{fullShare} B c
abbrev outPts (c : Dev nD) (f : Vec F S4x256x1024 .f32) : sProp 𝕄 := outM.view.loc (c : Thread nD τ) ↦{fullShare} f

/-- Device `c`'s core owes `O`. -/
abbrev owing (c : Dev nD) (O : CellTallies nD τ sig Unit) : sProp 𝕄 := iprop(∃ W, owes (c : Thread nD τ) O W)

/-- Before chunk `k` is sent: it and its place on the partner, what the copy pays with, and that both cells count. -/
abbrev sendTodo (c : Dev nD) (k : Fin 8) : sProp 𝕄 :=
  iprop((∃ f, sndPts c k f) ∗ (∃ f, rcvPts (prt c) k f) ∗ toks c k ∗ reached ER (sendCell c k) 0 ∗ reached ER (recvCell (prt c) k) 0)

set_option maxHeartbeats 800000 in
theorem send_step (K : GSem nD τ sig → ℕ) (c : Dev nD) (k : Fin 8) :
    iprop(invs A B K c ∗ sendTodo c k ∗ (actPts A c ∗ owing c (owe c k.val)))
      ⊢ wpB c (sendStep c (B c) k) fun _ => iprop(cred (tallyAt (sendCell c k) () N) ∗ (actPts A c ∗ owing c (owe c (k.val + 1)))) := by
  unfold sendStep invs
  rw [toDev_eq]
  unfold sendTo
  iintro ⟨⟨-, -, #HIs, -, #HIr⟩, ⟨⟨%f, Hs⟩, ⟨%fd, Hd⟩, ⟨Ht, Ht'⟩, #Hr, #Hr'⟩, Ha, ⟨%W, HO⟩⟩
  ihave HIsk := (at_chunk (fun k : Fin 8 => inv A B K (sendCell c k)) k) $$ HIs
  ihave HIrk := (at_chunk (fun k : Fin 8 => inv A B K (recvCell (prt c) k)) k) $$ HIr
  iapply (wp_load_rect 𝒱₀ (c : Thread nD τ) none Set.univ (m := oM) (S := Finset.univ) (Finset.subset_univ _)) $$ [Ha]
  · iexact Ha
  iintro Ha
  iapply (wp_load_rect 𝒱₀ (c : Thread nD τ) none Set.univ (m := sndM) (r := chRect k) (S := (chunk sndM k).view.set)
    (by rw [snd_set]; exact (View.set_slice_whole cc0_scratch0 (chRect k)).le)) $$ [Hs]
  · iexact Hs
  iintro Hs
  iapply (wp_store 𝒱₀ (c : Thread nD τ) none Set.univ (m := sndM) (r := chRect k) (S := (chunk sndM k).view.set)
    (by rw [snd_set]; exact (View.set_slice_whole cc0_scratch0 (chRect k)).le)) $$ [Hs]
  · iexact Hs
  iintro Hs
  ihave Hs := (Entails.of_eq (pointsTo_congr (stored_snd k f (sent A B c) (sendVal (B c) (fromRows A c k))
    (fun i hi => by unfold sent; rw [hi])))) $$ Hs
  iapply (Rounds.wp_send_pointsTo 𝒱₀ ER (rounds A B) (c : Thread nD τ) none (c' := (prt c : Thread nD τ)) (src := chunk sndM k) (dst := chunk rcvM k)
      (sS := .dma (sendS k)) (sem := .dma (recvS k)) (q := fullShare) (fs := sent A B c) (fd := fd) (κ₁ := K (sendCell c k)) (κ₂ := K (recvCell (prt c) k))
      (r₁ := 0) (r₂ := 0) (d₁ := ()) (d₂ := ())
      (by rw [duties_send]; exact Finset.mem_singleton_self _) (by rw [duties_recv]; exact Finset.mem_singleton_self _)
      () () N rfl (amount_send A B c k ()) (amount_recv A B (prt c) k ()) (owe c (k.val + 1)) (owe_step c k) (W := W)
      (by rw [payload_send])
      (by rw [payload_recv, prt_prt]; exact Entails.of_eq (pointsTo_congr (copied k fd (sent A B c))))) $$ [HIsk HIrk Hs Hd HO Ht Ht']
  · isplitl [HIsk]; · iexact HIsk
    isplitl [HIrk]; · iexact HIrk
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  rw [wp_ret]; imodintro
  isplitl [Hc]; · iexact Hc
  isplitl [Ha]; · iexact Ha
  iexists W; iexact HO

set_option maxHeartbeats 800000 in
theorem keep_step (c : Dev nD) (f : Vec F S4x256x1024 .f32) (b : Fin 4) :
    iprop(emp ∗ emp ∗ (actPts A c ∗ outPts c (keepStage A B c f b.val)))
      ⊢ wpB c (keepStep c (B c) b) fun _ => iprop(emp ∗ (actPts A c ∗ outPts c (keepStage A B c f (b.val + 1)))) := by
  unfold keepStep
  iintro ⟨-, -, Ha, Hout⟩
  iapply (wp_load_rect 𝒱₀ (c : Thread nD τ) none Set.univ (m := oM) (S := Finset.univ) (Finset.subset_univ _)) $$ [Ha]
  · iexact Ha
  iintro Ha
  iapply (wp_load_rect 𝒱₀ (c : Thread nD τ) none Set.univ (m := outM) (r := btRect b) (S := Finset.univ) (Finset.subset_univ _)) $$ [Hout]
  · iexact Hout
  iintro Hout
  iapply (wp_store 𝒱₀ (c : Thread nD τ) none Set.univ (m := outM) (r := btRect b) (S := Finset.univ) (Finset.subset_univ _)) $$ [Hout]
  · iexact Hout
  iintro Hout
  rw [wp_ret]; imodintro
  isplitr; · iempintro
  isplitl [Ha]; · iexact Ha
  ihave Hout := (Entails.of_eq (congrArg (outPts c) (keepStage_step A B c f b))) $$ Hout
  iexact Hout

/-- Before chunk `k` is received: the credit to wait with and the place at its cell. -/
abbrev recvTodo (c : Dev nD) (k : Fin 8) : sProp 𝕄 := iprop(cred (tallyAt (recvCell c k) () N) ∗ atPos ER (recvCell c k) 0 ∅ 0)

set_option maxHeartbeats 800000 in
theorem recv_step (K : GSem nD τ sig → ℕ) (c : Dev nD) (k : Fin 8) :
    iprop(invs A B K c ∗ recvTodo c k ∗ (outPts c (sumStage A B c k.val) ∗ owing c 0))
      ⊢ wpB c (recvStep k) fun _ => iprop((semVal (recvCell c k) 0 ∗ ∃ f, rcvPts c k f) ∗ (outPts c (sumStage A B c (k.val + 1)) ∗ owing c 0)) := by
  unfold recvStep invs
  iintro ⟨⟨-, -, -, #HIr, -⟩, ⟨Hc, Hat⟩, Hout, ⟨%W, HO⟩⟩
  ihave #HIrk := (at_chunk (fun k : Fin 8 => inv A B K (recvCell c k)) k) $$ HIr
  iapply (Rounds.wp_wait_rest_token 𝒱₀ ER (rounds A B) (c : Thread nD τ) none (κ := K (recvCell c k))
      (wpE_waitDma2_eq (src := chunk sndM k) (dst := chunk rcvM k) 𝒱₀ (c : Thread nD τ) none Set.univ) (Set.mem_univ _) () (O := 0) (W := W) (R := 0) (m := 0) (T := ∅)
      ((Nat.zero_add _).trans ((credit_rcv k).trans (expect_recv A B c k).symm))) $$ [Hc HO Hat]
  · isplitr; · iexact HIrk
    isplitl [Hc]; · iexact Hc
    isplitl [HO]; · iexact HO
    isplitr; · rw [MayWait_zero]; iempintro
    iexact Hat
  iintro ⟨HO, Hat, -, Hpay⟩
  ihave Hr := (Entails.of_eq (rest_recv A B c k)) $$ Hpay
  iapply (wp_load_rect 𝒱₀ (c : Thread nD τ) none Set.univ (m := outM) (r := chRect k) (S := Finset.univ) (Finset.subset_univ _)) $$ [Hout]
  · iexact Hout
  iintro Hout
  iapply (wp_load_rect 𝒱₀ (c : Thread nD τ) none Set.univ (m := rcvM) (r := chRect k) (S := (chunk rcvM k).view.set)
    (by rw [rcv_set]; exact (View.set_slice_whole cc0_scratch1 (chRect k)).le)) $$ [Hr]
  · iexact Hr
  iintro Hr
  iapply (wp_load_rect 𝒱₀ (c : Thread nD τ) none Set.univ (m := outM) (r := chRect k) (S := Finset.univ) (Finset.subset_univ _)) $$ [Hout]
  · iexact Hout
  iintro Hout
  iapply (wp_store 𝒱₀ (c : Thread nD τ) none Set.univ (m := outM) (r := chRect k) (S := Finset.univ) (Finset.subset_univ _)) $$ [Hout]
  · iexact Hout
  iintro Hout
  rw [wp_ret]
  imod (close A B (K (recvCell c k)) (recvCell c k)) $$ [Hat] with Hv
  · isplitr; · iexact HIrk
    iexact Hat
  imodintro
  isplitl [Hv Hr]
  · isplitl [Hv]; · iexact Hv
    iexists _; iexact Hr
  isplitl [Hout]
  · ihave Hout := (Entails.of_eq (congrArg (outPts c) (sumStage_step A B c k))) $$ Hout
    iexact Hout
  iexists _; iexact HO

/-- Before the departure of chunk `k` is awaited: the credit to wait with and the place at its cell. -/
abbrev drainTodo (c : Dev nD) (k : Fin 8) : sProp 𝕄 := iprop(cred (tallyAt (sendCell c k) () N) ∗ atPos ER (sendCell c k) 0 ∅ 0)

set_option maxHeartbeats 800000 in
theorem drain_step (K : GSem nD τ sig → ℕ) (c : Dev nD) (k : Fin 8) :
    iprop(invs A B K c ∗ drainTodo c k ∗ owing c 0)
      ⊢ wpB c (drainStep (F := F) k) fun _ => iprop((semVal (sendCell c k) 0 ∗ ∃ f, sndPts c k f) ∗ owing c 0) := by
  unfold drainStep invs
  iintro ⟨⟨-, -, #HIs, -, -⟩, ⟨Hc, Hat⟩, ⟨%W, HO⟩⟩
  ihave #HIsk := (at_chunk (fun k : Fin 8 => inv A B K (sendCell c k)) k) $$ HIs
  iapply (Rounds.wp_wait_rest_token 𝒱₀ ER (rounds A B) (c : Thread nD τ) none (κ := K (sendCell c k))
      (wpE_waitDma2_eq (src := chunk rcvM k) (dst := chunk sndM k) 𝒱₀ (c : Thread nD τ) none Set.univ) (Set.mem_univ _) () (O := 0) (W := W) (R := 0) (m := 0) (T := ∅)
      ((Nat.zero_add _).trans ((credit_snd k).trans (expect_send A B c k).symm))) $$ [Hc HO Hat]
  · isplitr; · iexact HIsk
    isplitl [Hc]; · iexact Hc
    isplitl [HO]; · iexact HO
    isplitr; · rw [MayWait_zero]; iempintro
    iexact Hat
  iintro ⟨HO, Hat, -, Hpay⟩
  ihave Hs := (Entails.of_eq (rest_send A B c k)) $$ Hpay
  rw [wp_ret]
  imod (close A B (K (sendCell c k)) (sendCell c k)) $$ [Hat] with Hv
  · isplitr; · iexact HIsk
    iexact Hat
  imodintro
  isplitl [Hv Hs]
  · isplitl [Hv]; · iexact Hv
    iexists _; iexact Hs
  iexists _; iexact HO

/-! ## The whole body -/

/-- What the body starts from: the protocol with every cell open, the credits it waits with, its buffers, and what
    it owes. -/
def bodyPre (K : GSem nD τ sig → ℕ) (c : Dev nD) : sProp 𝕄 :=
  iprop(opened A B K c ∗ cred (tallyAt (barCell c) () 1) ∗ (bigSep Finset.univ fun k : Fin 8 => cred (tallyAt (recvCell c k) () N)) ∗ levAts L lv
    ∗ (bigSep Finset.univ fun k : Fin 8 => iprop(∃ f, sndPts c k f)) ∗ (bigSep Finset.univ fun k : Fin 8 => iprop(∃ f, rcvPts c k f))
    ∗ actPts A c ∗ wgtPts B c ∗ (∃ f, outPts c f) ∗ owing c (O₀ c))

/-- What it leaves: every counter at zero, the buffers back, the result holding the sum, nothing owed. -/
def bodyPost (c : Dev nD) : sProp 𝕄 :=
  iprop(semVal (barCell c) 0
    ∗ (bigSep Finset.univ fun k : Fin 8 => semVal (sendCell c k) 0) ∗ (bigSep Finset.univ fun k : Fin 8 => semVal (recvCell c k) 0)
    ∗ (bigSep Finset.univ fun k : Fin 8 => iprop(∃ f, sndPts c k f)) ∗ (bigSep Finset.univ fun k : Fin 8 => iprop(∃ f, rcvPts c k f))
    ∗ actPts A c ∗ wgtPts B c ∗ outPts c (total A B c) ∗ owing c 0)

/-- The four loops, from the partner's receive buffer in hand. -/
theorem loops_run (K : GSem nD τ sig → ℕ) (c : Dev nD) (f : Vec F S4x256x1024 .f32) (Q : PUnit → sProp 𝕄) :
    iprop(invs A B K c ∗ bigSep Finset.univ (sendTodo c) ∗ (bigSep Finset.univ fun k : Fin 8 => atPos ER (sendCell c k) 0 ∅ 0)
        ∗ bigSep Finset.univ (recvTodo c) ∗ actPts A c ∗ outPts c f ∗ owing c (owe c 0)
        ∗ ((bigSep Finset.univ fun k : Fin 8 => semVal (sendCell c k) 0) -∗ (bigSep Finset.univ fun k : Fin 8 => semVal (recvCell c k) 0)
          -∗ (bigSep Finset.univ fun k : Fin 8 => iprop(∃ f, sndPts c k f)) -∗ (bigSep Finset.univ fun k : Fin 8 => iprop(∃ f, rcvPts c k f))
          -∗ actPts A c -∗ outPts c (total A B c) -∗ owing c 0 -∗ |={Set.univ}=> Q ⟨⟩))
      ⊢ wpB c (inOrder 8 (sendStep c (B c)) <| inOrder 4 (keepStep c (B c)) <| inOrder 8 recvStep <| inOrder 8 drainStep <| pure ⟨⟩) Q := by
  iintro ⟨#HI, Hsend, Hats, Hrecv, Ha, Hout, HO, Hk⟩
  iapply (wp_inOrder c (invs A B K c) _ Q 8 _ _ _ (fun n => iprop(actPts A c ∗ owing c (owe c n))) (send_step A B K c))
  isplitr; · iexact HI
  isplitl [Hsend]; · iexact Hsend
  isplitl [Ha HO]
  · isplitl [Ha]; · iexact Ha
    iexact HO
  iintro Hcs ⟨Ha, HO⟩
  rw [owe_all]
  iapply (wp_inOrder c iprop(emp) _ Q 4 _ (fun _ => iprop(emp)) (fun _ => iprop(emp)) (fun n => iprop(actPts A c ∗ outPts c (keepStage A B c f n))) (keep_step A B c f))
  isplitr; · iempintro
  isplitr; · rw [show (bigSep Finset.univ fun _ : Fin 4 => (iprop(emp) : sProp 𝕄)) = iprop(emp) from bigSep_emp_const _]; iempintro
  isplitl [Ha Hout]
  · isplitl [Ha]; · iexact Ha
    rw [keepStage_zero]; iexact Hout
  iintro - ⟨Ha, Hout⟩
  rw [keepStage_all]
  iapply (wp_inOrder c (invs A B K c) _ Q 8 _ _ _ (fun n => iprop(outPts c (sumStage A B c n) ∗ owing c 0)) (recv_step A B K c))
  isplitr; · iexact HI
  isplitl [Hrecv]; · iexact Hrecv
  isplitl [Hout HO]
  · isplitl [Hout]; · rw [sumStage_zero]; iexact Hout
    iexact HO
  rw [bigSep_sep']
  iintro ⟨Hv, Hr⟩ ⟨Hout, HO⟩
  rw [sumStage_all]
  iapply (wp_inOrder c (invs A B K c) _ Q 8 _ _ _ (fun _ => owing c 0) (drain_step A B K c))
  isplitr; · iexact HI
  isplitl [Hcs Hats]
  · rw [bigSep_sep']
    isplitl [Hcs]; · iexact Hcs
    iexact Hats
  isplitl [HO]; · iexact HO
  rw [bigSep_sep']
  iintro ⟨Hv', Hs⟩ HO
  unfold wpB
  rw [wp_pure]
  iapply Hk $$ [Hv'] [Hv] [Hs] [Hr] [Ha] [Hout] [HO]
  · iexact Hv'
  · iexact Hv
  · iexact Hs
  · iexact Hr
  · iexact Ha
  · iexact Hout
  · iexact HO

set_option maxHeartbeats 800000 in
/-- The body on device `c`. -/
theorem body_run (K : GSem nD τ sig → ℕ) (c : Dev nD) (Q : PUnit → sProp 𝕄) :
    iprop(bodyPre A B K c ∗ (bodyPost A B c -∗ Q ⟨⟩)) ⊢ wpB c (steps (F := F)) Q := by
  unfold bodyPre opened steps semSignalWord semWaitWord wpB
  simp only [Prog.bind_lift, Prog.bind_op, Prog.bind_ret, wp_deviceId]
  rw [signalDev_eq, show (1#32 : BitVec 32).toInt = 1 from by decide, bigSep_sep', bigSep_sep', bigSep_sep']
  iintro ⟨⟨⟨#HI, HatB, #HrP, HtP, Hplace, Htoks⟩, HcB, HcV, #Hlev, Hs, Hr, Ha, Hw, ⟨%f, Hout⟩, ⟨%W, HO⟩⟩, Hk⟩
  ihave HI' := (Entails.of_eq (by unfold invs; rfl : invs A B K c = _)) $$ HI
  icases HI' with ⟨#HIb, #HIbP, -, -, -⟩
  icases Hplace with ⟨HatS, #HrS, HatV, #HrV⟩
  iapply (Rounds.wp_signal 𝒱₀ ER (rounds A B) (c : Thread nD τ) none (dst := (prt c : Thread nD τ)) (sem := barS) (r := 0) (d := ()) (κ := K (barCell (prt c)))
      (by rw [duties_bar]; exact Finset.mem_singleton_self _) (amount_bar A B (prt c) ()) () (owe c 0) rfl)
    $$ [HO HtP Hr]
  · isplitr; · iexact HIbP
    isplitl [HO]; · iexact HO
    isplitl [HtP]; · iexact HtP
    isplitl [Hr]
    · rw [payload_bar]; unfold barPay; rw [prt_prt, bigSep_sep']
      isplitl [Hr]; · iexact Hr
      iexact HrV
    · iexact HrP
  iintro HO
  iapply (Rounds.wp_wait_rest_token 𝒱₀ ER (rounds A B) (c : Thread nD τ) none (κ := K (barCell c))
      (wpE_semWait_eq 𝒱₀ (c : Thread nD τ) none Set.univ) (Set.mem_univ _) () (O := owe c 0) (W := W) (R := 0) (m := 0) (T := ∅)
      ((Nat.zero_add 1).trans (expect_bar A B c).symm)) $$ [HcB HO HatB]
  · isplitr; · iexact HIb
    isplitl [HcB]; · iexact HcB
    isplitl [HO]; · iexact HO
    isplitr; · iapply (mayWait_bar c); iexact Hlev
    iexact HatB
  iintro ⟨HO, HatB, -, Hpay⟩
  ihave Hp := (Entails.of_eq ((rest_bar A B c).trans (bigSep_sep' _ _ _))) $$ Hpay
  icases Hp with ⟨HrP', #HrVP⟩
  iapply (wp_load_rect 𝒱₀ (c : Thread nD τ) none Set.univ (m := wM) (S := Finset.univ) (Finset.subset_univ _)) $$ [Hw]
  · iexact Hw
  iintro Hw
  rw [show (wM.access (Rect.unit (s := S512x1024) ![0, 0] S512x1024.size inb_S512x1024_S512x1024_0_0)).read (Elt F) (B c) = B c from
    Memref.read_access_unit_zero (Elt F) cc0_stg1_0 (by decide) _ _]
  iapply (loops_run A B K c f)
  isplitr; · iexact HI
  isplitl [Hs HrP' Htoks]
  · simp only [bigSep_sep']
    isplitl [Hs]; · iexact Hs
    isplitl [HrP']; · iexact HrP'
    isplitl [Htoks]; · iexact Htoks
    isplitr; · iexact HrS
    iexact HrVP
  isplitl [HatS]; · iexact HatS
  isplitl [HcV HatV]
  · rw [bigSep_sep']
    isplitl [HcV]; · iexact HcV
    iexact HatV
  isplitl [Ha]; · iexact Ha
  isplitl [Hout]; · iexact Hout
  isplitl [HO]; · iexists _; iexact HO
  iintro Hvs Hvr Hs Hr Ha Hout HO
  imod (close A B (K (barCell c)) (barCell c)) $$ [HatB] with Hv
  · isplitr; · iexact HIb
    iexact HatB
  imodintro
  iapply Hk
  unfold bodyPost
  isplitl [Hv]; · iexact Hv
  isplitl [Hvs]; · iexact Hvs
  isplitl [Hvr]; · iexact Hvr
  isplitl [Hs]; · iexact Hs
  isplitl [Hr]; · iexact Hr
  isplitl [Ha]; · iexact Ha
  isplitl [Hw]; · iexact Hw
  isplitl [Hout]; · iexact Hout
  iexact HO

end Steps

end Cert.KernelIdeal.Pair
-- ==== Proof.Region.lean ====
/-
  The kernel's region of `@main`: what each device's core holds when the region is entered and when it is left,
  the body between the two, and the region as a segment of the program.
-/
module

public import proofs.«01_k».proof.Proof.Body
public import proofs.«01_k».proof.Proof.Gen.KernelIdeal.Frame
public import Idealize.ShloMosaic.Lib.Pipeline.ValueKit.Geometry

@[expose] public section

noncomputable section

namespace Cert.KernelIdeal.Pair

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The two operands as the body finds them -/

/-- Device `c`'s activations and weights in their staging buffers. -/
def act (c : Dev nD) : Vec F S4x512x512 .f32 := iblk m c 0 t0_0
def wgt (c : Dev nD) : Vec F S512x1024 .f32 := iblk m c 1 t0_0
/-- What device `c` computes from them and from what its partner sends. -/
abbrev res (c : Dev nD) : Vec F S4x256x1024 .f32 := total (act m) (wgt m) c

/-! ## The buffers the copies go between, in chunks -/

theorem chunks_apart {k k' : Fin 8} (h : k ≠ k') : Disjoint (chRect k).set (chRect k').set := by
  rw [Finset.disjoint_left]
  intro i hi hi'
  exact h (((mem_chRect k i).mp hi).symm.trans ((mem_chRect k' i).mp hi'))
theorem chunks_all : (Finset.univ.biUnion fun k : Fin 8 => (chRect k).set) = Finset.univ := by
  ext i
  simp only [Finset.mem_biUnion, Finset.mem_univ, true_and, iff_true]
  exact ⟨chOf i, (mem_chRect _ i).mpr rfl⟩

/-- Either buffer held whole is its eight chunks held, and the other way round. -/
abbrev sndAny (c : Dev nD) : sProp 𝕄 :=
  iprop(∃ f : Buf (Elt F) ((c : Thread nD τ).loc cc0_scratch0), (c : Thread nD τ).loc cc0_scratch0 ↦{fullShare} f)
abbrev rcvAny (c : Dev nD) : sProp 𝕄 :=
  iprop(∃ f : Buf (Elt F) ((c : Thread nD τ).loc cc0_scratch1), (c : Thread nD τ).loc cc0_scratch1 ↦{fullShare} f)
abbrev sndChunks (c : Dev nD) : sProp 𝕄 := bigSep Finset.univ fun k : Fin 8 => iprop(∃ f, sndPts c k f)
abbrev rcvChunks (c : Dev nD) : sProp 𝕄 := bigSep Finset.univ fun k : Fin 8 => iprop(∃ f, rcvPts c k f)

theorem snd_cut (c : Dev nD) : (sndAny c : sProp 𝕄) ⊢ sndChunks c := by
  iintro ⟨%f, H⟩
  ihave H' := (Entails.of_eq (Ring.pointsTo_blocks (fun k : Fin 8 => (chRect k).set) (fun _ _ h => chunks_apart h) chunks_all f)) $$ H
  iapply (show (bigSep Finset.univ fun k : Fin 8 => (c : Thread nD τ).loc cc0_scratch0 ↦[(chRect k).set]{fullShare} f : sProp 𝕄) ⊢ sndChunks c from
    bigSep_mono fun k _ => show _ ⊢ iprop(∃ f, sndPts c k f) from by
      unfold sndPts; rw [snd_set]
      iintro H; iexists f; iexact H)
  iexact H'
theorem rcv_cut (c : Dev nD) : (rcvAny c : sProp 𝕄) ⊢ rcvChunks c := by
  iintro ⟨%f, H⟩
  ihave H' := (Entails.of_eq (Ring.pointsTo_blocks (fun k : Fin 8 => (chRect k).set) (fun _ _ h => chunks_apart h) chunks_all f)) $$ H
  iapply (show (bigSep Finset.univ fun k : Fin 8 => (c : Thread nD τ).loc cc0_scratch1 ↦[(chRect k).set]{fullShare} f : sProp 𝕄) ⊢ rcvChunks c from
    bigSep_mono fun k _ => show _ ⊢ iprop(∃ f, rcvPts c k f) from by
      unfold rcvPts; rw [rcv_set]
      iintro H; iexists f; iexact H)
  iexact H'
theorem snd_join (c : Dev nD) (f₀ : Vec F S4x256x1024 .f32) : (sndChunks c : sProp 𝕄) ⊢ sndAny c := by
  refine BIBase.Entails.trans (bigSep_mono fun k _ => ?_)
    (Ring.pointsTo_blocks_join_exists (ℓ := (c : Thread nD τ).loc cc0_scratch0) (fun k : Fin 8 => (chRect k).set) (fun _ _ h => chunks_apart h) chunks_all f₀)
  show iprop(∃ f, sndPts c k f) ⊢ _
  unfold sndPts; rw [snd_set]
  iintro ⟨%f, H⟩; iexists f; iexact H
theorem rcv_join (c : Dev nD) (f₀ : Vec F S4x256x1024 .f32) : (rcvChunks c : sProp 𝕄) ⊢ rcvAny c := by
  refine BIBase.Entails.trans (bigSep_mono fun k _ => ?_)
    (Ring.pointsTo_blocks_join_exists (ℓ := (c : Thread nD τ).loc cc0_scratch1) (fun k : Fin 8 => (chRect k).set) (fun _ _ h => chunks_apart h) chunks_all f₀)
  show iprop(∃ f, rcvPts c k f) ⊢ _
  unfold rcvPts; rw [rcv_set]
  iintro ⟨%f, H⟩; iexists f; iexact H

/-! ## The region's invariant and its data -/

/-- The kernel's own semaphores that exist only while it runs: the send row and the receive row. -/
def own : Fin 8 ⊕ Fin 8 → SemLoc sig
  | .inl k => .dma (sendS k)
  | .inr k => .dma (recvS k)

theorem own_zero (c : Dev nD) : (Pipeline.ownSems0 own c : sProp 𝕄)
    = iprop((bigSep Finset.univ fun k : Fin 8 => semVal (sendCell c k) 0) ∗ bigSep Finset.univ fun k : Fin 8 => semVal (recvCell c k) 0) := by
  unfold Pipeline.ownSems0
  rw [bigSep_univ_sum]
  rfl

/-- The credit device `c` is launched with: one payment on its barrier, one chunk on each receive semaphore. -/
def purse (c : Dev nD) : sProp 𝕄 :=
  iprop(cred (tallyAt (barCell c) () 1) ∗ bigSep Finset.univ fun k : Fin 8 => cred (tallyAt (recvCell c k) () N))
/-- What the launch keeps for the region; what enters the region; what the region gives back. -/
def kept₀ (c : Dev nD) : sProp 𝕄 := iprop((∃ K, ghost (act m) (wgt m) K c) ∗ purse c)
def enter (c : Dev nD) : sProp 𝕄 := iprop((∃ K, opened (act m) (wgt m) K c) ∗ purse c ∗ levAts L lv)
def leave (c : Dev nD) : sProp 𝕄 := semVal (barCell c) 0

/-- The proof data: arrays as the host operations leave them, inputs left in place, the result as computed; before
    the body the protocol's state and the two chunked buffers, after it every counter at zero. -/
def dat (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => res m c
  Φ t := if t.val = 0 then iprop(enter m c ∗ sndAny c ∗ rcvAny c ∗ ∃ r, prngReg c r)
    else iprop(leave c ∗ Pipeline.ownSems0 own c ∗ sndAny c ∗ rcvAny c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem owed_first (c : Dev nD) : (dat (F := F) m c).owed t0_0.castSucc = O₀ c := by
  show (if (t0_0.castSucc : Fin (cfg0.N + 1)).val = 0 then O₀ c else 0) = O₀ c; exact if_pos rfl
theorem owed_zero (c : Dev nD) : (pdats (F := F) m 0 c).owed 0 = O₀ c := by
  show (if (0 : Fin (cfg0.N + 1)).val = 0 then O₀ c else 0) = O₀ c; exact if_pos rfl
theorem owed_done (c : Dev nD) : (dat (F := F) m c).owed t0_0.succ = 0 := by
  show (if (t0_0.succ : Fin (cfg0.N + 1)).val = 0 then O₀ c else 0) = 0; exact if_neg (Nat.succ_ne_zero _)
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

/-- The input windows' buffers hold their blocks when the body runs. -/
theorem found0 (c : Dev nD) (d) : (dat m c).before 0 t0_0 d = act m c :=
  ((dat m c).before_in_eq_fetched 0 rfl (fun _ => rfl) (fun _ _ _ => rfl) (fun _ => rfl) t0_0 d).trans rfl
theorem found1 (c : Dev nD) (d) : (dat m c).before 1 t0_0 d = wgt m c :=
  ((dat m c).before_in_eq_fetched 1 rfl (fun _ => rfl) (fun _ _ _ => rfl) (fun _ => rfl) t0_0 d).trans rfl

/-- What the region hands the body, and what it takes back, its three windows named. -/
def handed (c : Dev nD) : sProp 𝕄 :=
  iprop((enter m c ∗ sndAny c ∗ rcvAny c ∗ ∃ r, prngReg c r) ∗ (dat m c).owesAt () t0_0.castSucc
    ∗ (∃ d f, ⌜f = (dat m c).before 0 t0_0 d⌝ ∗ (c : Thread nD τ).loc cc0_stg0_0 ↦{fullShare} f)
    ∗ (∃ d f, ⌜f = (dat m c).before 1 t0_0 d⌝ ∗ (c : Thread nD τ).loc cc0_stg1_0 ↦{fullShare} f)
    ∗ (∃ d f, ⌜f = (dat m c).before 2 t0_0 d⌝ ∗ (c : Thread nD τ).loc cc0_stg2_0 ↦{fullShare} f))
def returned (c : Dev nD) : sProp 𝕄 :=
  iprop((leave c ∗ Pipeline.ownSems0 own c ∗ sndAny c ∗ rcvAny c ∗ ∃ r, prngReg c r) ∗ (dat m c).owesAt () t0_0.succ
    ∗ (∃ f, ⌜f = act m c⌝ ∗ (c : Thread nD τ).loc cc0_stg0_0 ↦{fullShare} f)
    ∗ (∃ f, ⌜f = wgt m c⌝ ∗ (c : Thread nD τ).loc cc0_stg1_0 ↦{fullShare} f)
    ∗ ∃ f, ⌜f = res m c⌝ ∗ (c : Thread nD τ).loc cc0_stg2_0 ↦{fullShare} f)

theorem owing_of (c : Dev nD) : ((dat (F := F) m c).owesAt () t0_0.castSucc : sProp 𝕄) ⊢ owing c (O₀ c) := by
  unfold Dat.owesAt Pipeline.owesWithin owing
  rw [owed_first]
  iintro ⟨%W, -, HO⟩; iexists W; iexact HO
theorem of_owing (c : Dev nD) : (owing c 0 : sProp 𝕄) ⊢ (dat (F := F) m c).owesAt () t0_0.succ := by
  unfold Dat.owesAt Pipeline.owesWithin owing Dat.bound
  rw [owed_done]
  iintro ⟨%W, HO⟩; iexists W; isplitr; · ipureintro; exact fun _ _ => Or.inl trivial
  iexact HO

/-- The body takes what it is handed to what is taken back. -/
theorem body_between (c : Dev nD) : handed m c ⊢ wpB c steps fun _ => returned m c := by
  unfold handed enter purse
  simp only [found0, found1]
  iintro ⟨⟨⟨⟨%K, Hg⟩, ⟨HcB, HcV⟩, Hlev⟩, Hs, Hr, Hp⟩, HO, ⟨%d0, %fa, %ea, Ha⟩, ⟨%d1, %fw, %ew, Hw⟩, ⟨%d2, %fo, -, Ho⟩⟩
  subst ea; subst ew
  ihave Hs := (snd_cut c) $$ Hs
  ihave Hr := (rcv_cut c) $$ Hr
  ihave HO := (owing_of m c) $$ HO
  iapply (body_run (act m) (wgt m) K c (fun _ => returned m c))
  isplitr [Hp]
  · unfold bodyPre
    isplitl [Hg]; · iexact Hg
    isplitl [HcB]; · iexact HcB
    isplitl [HcV]; · iexact HcV
    isplitl [Hlev]; · iexact Hlev
    isplitl [Hs]; · iexact Hs
    isplitl [Hr]; · iexact Hr
    isplitl [Ha]; · iexact Ha
    isplitl [Hw]; · iexact Hw
    isplitl [Ho]; · iexists _; iexact Ho
    iexact HO
  · unfold bodyPost returned leave
    iintro ⟨Hb, Hvs, Hvr, Hs, Hr, Ha, Hw, Ho, HO⟩
    ihave Hs := (snd_join c (res m c)) $$ Hs
    ihave Hr := (rcv_join c (res m c)) $$ Hr
    ihave HO := (of_owing m c) $$ HO
    isplitr [HO Ha Hw Ho]
    · isplitl [Hb]; · iexact Hb
      isplitl [Hvs Hvr]
      · rw [own_zero]
        isplitl [Hvs]; · iexact Hvs
        iexact Hvr
      isplitl [Hs]; · iexact Hs
      isplitl [Hr]; · iexact Hr
      iexact Hp
    isplitl [HO]; · iexact HO
    isplitl [Ha]
    · iexists _; isplitr; · ipureintro; rfl
      iexact Ha
    isplitl [Hw]
    · iexists _; isplitr; · ipureintro; rfl
      iexact Hw
    iexists _; isplitr; · ipureintro; rfl
    iexact Ho

/-- The library's obligation on the body. -/
theorem body_ob (c : Dev nD) : BodyObligation (dat (F := F) m c) (defs₀ (F := F)) 𝒱₀ () Set.univ := fun t => by
  rw [fin_N0 t, bigSep_W0, bigSep_W0]
  simp only [owns_whole_eq]
  rw [show (dat m c).Φ t0_0.castSucc = iprop(enter m c ∗ sndAny c ∗ rcvAny c ∗ ∃ r, prngReg c r) from rfl,
    show (dat m c).Φ t0_0.succ = iprop(leave c ∗ Pipeline.ownSems0 own c ∗ sndAny c ∗ rcvAny c ∗ ∃ r, prngReg c r) from rfl]
  show handed m c ⊢ wp frame (wpE (defs₀ (F := F)) 𝒱₀ (c : Thread nD τ) none) Set.univ
    (cc0_body oM (Memref.isWhole_whole _) wM (Memref.isWhole_whole _) outM (Memref.isWhole_whole _) sndM (Memref.isWhole_whole _)
      rcvM (Memref.isWhole_whole _) cc0_scratch2 cc0_scratch3) (fun _ => returned m c)
  rw [body_eq]
  exact body_between m c

end Cert.KernelIdeal.Pair
-- ==== Proof.Launch.lean ====
/-
  The launch: every cell of the protocol is set up, every device is dealt its share, `@main` runs as the reshape
  and then the region, and what the memory holds at the end is read off.
-/
module

public import proofs.«01_k».proof.Proof.Region
public import Idealize.ShloMosaic.Lib.Pipeline.RegionTalk

@[expose] public section

noncomputable section

namespace Cert.KernelIdeal.Pair

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The arrays of `@main` -/

/-- A device's arrays at launch, after the reshape, and after the region. -/
def mem₀ (c : Dev nD) : Valuation τ sig (Elt F) := fun b => m ((c : Dev nD), b)
def mem₁ (c : Dev nD) : Valuation τ sig (Elt F) := StableHlo.after hostOps0 (mem₀ m c)
def mem₂ (c : Dev nD) : Valuation τ sig (Elt F) := Function.update (mem₁ m c) (Proc.devRef .tc main_v2) (res m c)

theorem mem₂_res (c : Dev nD) : mem₂ m c main_v2 = res m c := Function.update_self _ _ _
theorem mem₂_of_ne (c : Dev nD) {b : Ref sig .tc} (h : b ≠ main_v2) : mem₂ m c b = mem₁ m c b :=
  Function.update_of_ne (StableHlo.devRef_ne_of_ne h) _ _

/-- The arrays that outlive the region: the argument only the reshape reads, and the three the region stages. -/
abbrev lone : Finset (DevRef τ sig) := {Proc.devRef .tc main_arg0}
abbrev staged : Finset (DevRef τ sig) := Pipeline.arrRefs (τ := τ) (pcfgs (F := F) 0).spec
def arrays : Finset (DevRef τ sig) := (StableHlo.tcRefs τ sig).filter fun b => ¬ b.isScoped

/-- Buffer `b` of device `c` held whole at `v`. -/
abbrev has (c : Dev nD) (b : Ref sig .tc) (v : Buf (Elt F) ((c : Thread nD τ).loc b)) : sProp 𝕄 :=
  (c : Thread nD τ).loc b ↦{fullShare} v

theorem arrays_held (c : Dev nD) (W : Valuation τ sig (Elt F)) :
    (unscopedBufs c (fun b => W b) : sProp 𝕄) = StableHlo.held (c : Thread nD τ) arrays W := by
  unfold unscopedBufs StableHlo.held arrays StableHlo.tcRefs
  rw [Finset.filter_map, BI.bigSep_map]
  rfl
theorem arrays_eq (c : Dev nD) (W : Valuation τ sig (Elt F)) : (StableHlo.held (c : Thread nD τ) arrays W : sProp 𝕄)
    = iprop(has c main_arg0 (W main_arg0) ∗ has c main_v1 (W main_v1) ∗ has c main_arg1 (W main_arg1) ∗ has c main_v2 (W main_v2)) := by
  unfold StableHlo.held
  rw [bigSep_eq_bigSepL_of_eq [Proc.devRef .tc main_arg0, Proc.devRef .tc main_v1, Proc.devRef .tc main_arg1, Proc.devRef .tc main_v2]
    (by decide) (by decide)]
  rfl
theorem staged_eq (c : Dev nD) (W : Valuation τ sig (Elt F)) : (StableHlo.held (c : Thread nD τ) (staged (F := F)) W : sProp 𝕄)
    = iprop(has c main_v1 (W main_v1) ∗ has c main_arg1 (W main_arg1) ∗ has c main_v2 (W main_v2)) := by
  unfold StableHlo.held
  rw [show staged (F := F) = ({Proc.devRef .tc main_v1, Proc.devRef .tc main_arg1, Proc.devRef .tc main_v2} : Finset (DevRef τ sig)) from by
      show Pipeline.arrRefs (τ := τ) spec0 = _; decide,
    bigSep_eq_bigSepL_of_eq [Proc.devRef .tc main_v1, Proc.devRef .tc main_arg1, Proc.devRef .tc main_v2] (by decide) (by decide)]
  rfl
theorem lone_eq (c : Dev nD) (W : Valuation τ sig (Elt F)) : (StableHlo.held (c : Thread nD τ) lone W : sProp 𝕄)
    = has c main_arg0 (W main_arg0) := by
  unfold StableHlo.held
  rw [BI.bigSep_singleton]

/-! ## Entering the region -/

/-- One chunk's two cells opened. -/
theorem open_chunk (K : GSem nD τ sig → ℕ) (c : Dev nD) (k : Fin 8) :
    iprop(invs (act m) (wgt m) K c ∗ (openTok ER (sendCell c k) ∗ openTok ER (recvCell c k)) ∗ semVal (sendCell c k) 0 ∗ semVal (recvCell c k) 0)
      ⊢ (|={Set.univ}=> place c k : sProp 𝕄) := by
  unfold invs
  iintro ⟨⟨-, -, #HIs, #HIr, -⟩, ⟨HoS, HoR⟩, HvS, HvR⟩
  imod (Rounds.cell_open ER (rounds (act m) (wgt m)) (g := sendCell c k) (Set.mem_univ (K (sendCell c k)))) $$ [HoS HvS] with ⟨HatS, #HrS⟩
  · isplitr; · iapply (at_chunk (fun k => inv (act m) (wgt m) K (sendCell c k)) k); iexact HIs
    isplitl [HoS] <;> iassumption
  imod (Rounds.cell_open ER (rounds (act m) (wgt m)) (g := recvCell c k) (Set.mem_univ (K (recvCell c k)))) $$ [HoR HvR] with ⟨HatR, #HrR⟩
  · isplitr; · iapply (at_chunk (fun k => inv (act m) (wgt m) K (recvCell c k)) k); iexact HIr
    isplitl [HoR] <;> iassumption
  imodintro
  isplitl [HatS]; · iexact HatS
  isplitr; · iexact HrS
  isplitl [HatR]; · iexact HatR
  iexact HrR

/-- All eight chunks' cells opened. -/
theorem open_chunks (K : GSem nD τ sig → ℕ) (c : Dev nD) :
    iprop(invs (act m) (wgt m) K c ∗ bigSep Finset.univ fun k : Fin 8 =>
        iprop((openTok ER (sendCell c k) ∗ openTok ER (recvCell c k)) ∗ semVal (sendCell c k) 0 ∗ semVal (recvCell c k) 0))
      ⊢ (|={Set.univ}=> bigSep Finset.univ (place c) : sProp 𝕄) := by
  refine BIBase.Entails.trans ?_ (bigSep_fupd _ _)
  exact bigSep_with_persistent fun k _ => open_chunk m K c k

/-- What the launch kept becomes what enters the region. -/
theorem entering (c : Dev nD) : iprop(kept₀ m c ∗ Pipeline.ownSems0 own c ∗ levAts L lv) ⊢ (|={Set.univ}=> enter m c : sProp 𝕄) := by
  rw [own_zero]
  unfold kept₀ enter ghost
  iintro ⟨⟨⟨%K, #HI, HatB, #HrP, HtP, Hopen, Htoks⟩, Hpurse⟩, ⟨HvS, HvR⟩, #Hlev⟩
  imod (open_chunks m K c) $$ [Hopen HvS HvR] with Hplace
  · isplitr; · iexact HI
    simp only [bigSep_sep']
    isplitl [Hopen]; · iexact Hopen
    isplitl [HvS]; · iexact HvS
    iexact HvR
  imodintro
  isplitl [HatB HtP Htoks Hplace]
  · iexists K; unfold opened
    isplitr; · iexact HI
    isplitl [HatB]; · iexact HatB
    isplitr; · iexact HrP
    isplitl [HtP]; · iexact HtP
    isplitl [Hplace]; · iexact Hplace
    iexact Htoks
  isplitl [Hpurse]; · iexact Hpurse
  iexact Hlev

/-- Whatever the core owes at a point of the region sits above the staging semaphores. -/
theorem owed_above (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  rw [show (pdats (F := F) m 0 c).owed t = if t.val = 0 then O₀ c else 0 from rfl] at h
  split at h
  · rcases O₀_pos h with ⟨k, rfl⟩ | rfl
    · exact ⟨mem_L _ _ _, by rw [lv_recv]; decide⟩
    · exact ⟨mem_L _ _ _, by rw [lv_bar]; decide⟩
  · exact absurd h (Nat.lt_irrefl 0)

theorem region_in (c : Dev nD) : iprop(Pipeline.scopedRest (Pipeline.pin (pcfgs (F := F)) adm 0).spec c ∗ (∃ r, prngReg c r)
      ∗ StableHlo.held (c.tc : Thread nD τ) ∅ (mem₁ m c) ∗ enter m c) ⊢ (pdats m 0 c).Φ 0 := by
  rw [show (pdats m 0 c).Φ 0 = iprop(enter m c ∗ sndAny c ∗ rcvAny c ∗ ∃ r, prngReg c r) from rfl,
    show (Pipeline.scopedRest (Pipeline.pin (pcfgs (F := F)) adm 0).spec c : sProp 𝕄) = iprop(sndAny c ∗ rcvAny c) from scopedRest0_eq c]
  iintro ⟨⟨Hs, Hr⟩, Hp, -, He⟩
  isplitl [He]; · iexact He
  isplitl [Hs]; · iexact Hs
  isplitl [Hr]; · iexact Hr
  iexact Hp

theorem held_none (c : Dev nD) (W : Valuation τ sig (Elt F)) : (StableHlo.held (c.tc : Thread nD τ) ∅ W : sProp 𝕄) = iprop(emp) := by
  unfold StableHlo.held
  exact BI.bigSep_empty

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (mem₂ m c) ∗ Pipeline.ownSems0 own c ∗ leave c) := by
  rw [show (pdats m 0 c).Φ (Fin.last _) = iprop(leave c ∗ Pipeline.ownSems0 own c ∗ sndAny c ∗ rcvAny c ∗ ∃ r, prngReg c r) from rfl,
    show (Pipeline.scopedRest (Pipeline.pin (pcfgs (F := F)) adm 0).spec c : sProp 𝕄) = iprop(sndAny c ∗ rcvAny c) from scopedRest0_eq c, held_none]
  iintro ⟨Hl, Hos, Hs, Hr, Hp⟩
  isplitl [Hs Hr]; · isplitl [Hs] <;> iassumption
  isplitl [Hp]; · iexact Hp
  isplitr; · iempintro
  isplitl [Hos]; · iexact Hos
  iexact Hl

/-! ## The windows' arrays before and after -/

theorem arr_before (c : Dev nD) (w : Fin 3) : (dat m c).arrAt w 0 = mem₁ m c (Proc.devRef .tc (Pipeline.arrRef spec0 w)) := rfl

/-- The result's array ends holding what the body left in its staging buffer. -/
theorem arr_res (c : Dev nD) : (dat m c).arrAt 2 cfg0.N = res m c := by
  refine (dat m c).arrAt_eq_of_after_last 2 t0_0 (by decide +kernel) (res m c) fun j => ?_
  rfl

theorem arr_after (c : Dev nD) (w : Fin 3) : (dat m c).arrAt w cfg0.N = mem₂ m c (Proc.devRef .tc (Pipeline.arrRef spec0 w)) := by
  match w with
  | 0 => exact ((dat m c).arrAt_in 0 rfl _).trans (mem₂_of_ne m c (b := main_v1) (by decide)).symm
  | 1 => exact ((dat m c).arrAt_in 1 rfl _).trans (mem₂_of_ne m c (b := main_arg1) (by decide)).symm
  | 2 => exact (arr_res m c).trans (mem₂_res m c).symm

end Cert.KernelIdeal.Pair
-- ==== Proof.Run.lean ====
/-
  `@main` from launch to end: the protocol's cells are set up and dealt to the devices, the reshape and the region
  run one after the other, and the final memory is read off.
-/
module

public import proofs.«01_k».proof.Proof.Launch
public import Idealize.ShloMosaic.Harness.Basic

@[expose] public section

noncomputable section

namespace Cert.KernelIdeal.Pair

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Idealize.ShloMosaic.Smoke (bigSep_pair)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The two segments -/

/-- What rides beside the arrays: what the launch keeps for the region, the register and the debt. -/
def ride (c : Dev nD) : sProp 𝕄 :=
  iprop(kept₀ m c ∗ (∃ r, prngReg c r) ∗ ∃ W, owes (c : Thread nD τ) (O₀ c) W)

theorem reshape_sub : ∀ op ∈ (hostOps0 : List (HloOp τ sig (Elt F))), op.bufs ⊆ arrays := fun op h => by
  simp only [hostOps0, List.mem_singleton] at h; subst h
  show ({Proc.devRef .tc main_arg0, Proc.devRef .tc main_v1} : Finset (DevRef τ sig)) ⊆ arrays; decide

/-- The reshape of the activations. -/
def segReshape : Pipeline.HostSeg (Name := ℕ) (U := UU) (pcfgs (F := F)) defs₀ 𝒱₀ L lv :=
  Pipeline.HostSeg.ofOps _ _ _ _ _ arrays hostOps0 reshape_sub (List.forall_iff_forall_mem.mp hostOps0_fresh) (mem₀ m) (ride m)

/-- A counter's level, by what it counts. -/
def levelOf : Role → ℕ
  | .bar => 1
  | .recv _ => 2
  | _ => 0
/-- The staged windows' own counters are none of the protocol's. -/
theorem staged_other : ∀ (w : Fin 3) (s : Fin (spec0 w).nbuf), role (.dma ((spec0 w).sem s)) = .other := by decide

set_option backward.isDefEq.respectTransparency.types false in
/-- The kernel. -/
def segKernel : Pipeline.RegionSeg (pcfgs (F := F)) adm (pdats m) () defs₀ 𝒱₀ L lv 0 :=
  Pipeline.RegionSeg.ofTalk (pcfgs (F := F)) adm (pdats m) () defs₀ 𝒱₀ L lv 0 own (by decide : Pipeline.OwnSemFacts spec0 own)
    ∅ lone (Finset.empty_subset _) launch0.toP rfl (fun c => (body_ob m c).loose)
    (fun _ => 0) O₀ (fun c => (owed_zero m c).trans (zero_add _).symm) (owed_last m) (fun _ => rfl)
    (fun c w => by show (if _ then fullShare else fullShare) = fullShare; exact ite_self _)
    (mem₁ m) (mem₂ m)
    (fun c b hb => by
      rw [Finset.sdiff_empty, Finset.mem_singleton] at hb; subst hb
      exact mem₂_of_ne m c (b := main_arg0) (by decide))
    (kept₀ m) leave (enter m) leave (entering m) (region_in m) (region_out m)
    (fun c => by iintro H; imodintro; iexact H)
    (fun _ => 0)
    ⟨fun c _ _ => mem_L c _ _, fun _ w s => (congrArg levelOf (staged_other w s)).le, fun c t g i h => owed_above m c t g i h⟩
    (fun _ => iprop(emp))
    (fun c w => arr_before m c w) (fun c w => arr_after m c w)

theorem to_region (c : Dev nD) : iprop(StableHlo.held (c : Thread nD τ) arrays (mem₁ m c) ∗ ride m c) ⊢ (segKernel m).pre c := by
  show _ ⊢ iprop(StableHlo.held (c.tc : Thread nD τ) (staged (F := F)) (mem₁ m c) ∗ (∃ r, prngReg c r)
    ∗ (StableHlo.held (c.tc : Thread nD τ) lone (mem₁ m c) ∗ emp) ∗ kept₀ m c ∗ ∃ Wd, owes (c : Thread nD τ) (0 + O₀ c) Wd)
  rw [arrays_eq, staged_eq, lone_eq, zero_add]
  unfold ride
  iintro ⟨⟨H0, H1, H2, H3⟩, Hk, Hp, HO⟩
  isplitl [H1 H2 H3]
  · isplitl [H1]; · iexact H1
    isplitl [H2] <;> iassumption
  isplitl [Hp]; · iexact Hp
  isplitl [H0]
  · isplitl [H0]; · iexact H0
    iempintro
  isplitl [Hk]; · iexact Hk
  iexact HO

/-- What a core holds at the end: its arrays and the barrier's counter at zero. -/
def atEnd (c : Dev nD) : sProp 𝕄 :=
  iprop((has c main_arg0 (mem₁ m c main_arg0) ∗ has c main_arg1 (mem₁ m c main_arg1) ∗ has c main_v2 (res m c)) ∗ semVal (barCell c) 0)

theorem from_region (c : Dev nD) : (segKernel m).post c ⊢ iprop(atEnd m c ∗ ∃ W, owes (c : Thread nD τ) (0 : CellTallies nD τ sig Unit) W) := by
  show iprop(StableHlo.held (c.tc : Thread nD τ) (staged (F := F)) (mem₂ m c) ∗ (∃ r, prngReg c r)
    ∗ (StableHlo.held (c.tc : Thread nD τ) lone (mem₂ m c) ∗ emp) ∗ leave c ∗ ∃ Wd, owes (c : Thread nD τ) (0 : CellTallies nD τ sig Unit) Wd) ⊢ _
  rw [staged_eq, lone_eq, mem₂_res, mem₂_of_ne m c (b := main_arg0) (by decide), mem₂_of_ne m c (b := main_arg1) (by decide)]
  unfold leave atEnd
  iintro ⟨⟨-, H1, H2⟩, -, ⟨H0, -⟩, Hb, HO⟩
  isplitr [HO]
  · isplitr [Hb]
    · isplitl [H0]; · iexact H0
      isplitl [H1] <;> iassumption
    iexact Hb
  iexact HO

/-- `@main` as its segments. -/
def segs : List (Pipeline.Seg (pcfgs (F := F)) adm (pdats m) () defs₀ 𝒱₀ L lv) := [.host (segReshape m), .region (segKernel m)]

/-! ## Setting the protocol up -/

/-- The barrier cells, which live from launch on; the send and receive cells, which the region opens. -/
def barEmb : Dev nD ↪ GSem nD τ sig := ⟨fun c => barCell c, fun _ _ h => congrArg (fun g : GSem nD τ sig => g.1.1) h⟩
theorem own_inj : Function.Injective own := by decide
theorem own_ne_bar : ∀ k, own k ≠ .reg barS := by decide
def ownEmb : Dev nD × (Fin 8 ⊕ Fin 8) ↪ GSem nD τ sig :=
  ⟨fun x => ((x.1 : Thread nD τ), own x.2), fun _ _ h =>
    Prod.ext (congrArg (fun g : GSem nD τ sig => g.1.1) h) (own_inj (congrArg Prod.snd h))⟩
abbrev bars : Finset (GSem nD τ sig) := Finset.univ.map barEmb
abbrev owns' : Finset (GSem nD τ sig) := Finset.univ.map ownEmb

theorem bars_owns : Disjoint bars owns' := by
  rw [Finset.disjoint_left]
  intro g h h'
  obtain ⟨c, -, rfl⟩ := Finset.mem_map.mp h
  obtain ⟨x, -, hx⟩ := Finset.mem_map.mp h'
  exact own_ne_bar x.2 (congrArg Prod.snd hx)

theorem bar_mem (c : Dev nD) : barCell c ∈ bars ∪ owns' := Finset.mem_union_left _ (Finset.mem_map_of_mem barEmb (Finset.mem_univ c))
theorem own_mem (c : Dev nD) (x : Fin 8 ⊕ Fin 8) : (((c : Thread nD τ), own x) : GSem nD τ sig) ∈ bars ∪ owns' :=
  Finset.mem_union_right _ (Finset.mem_map_of_mem ownEmb (Finset.mem_univ (c, x)))

/-- One token for the one payment on each cell. -/
def payEmb : GSem nD τ sig ↪ GSem nD τ sig × ℕ × Unit := ⟨fun g => (g, 0, ()), fun _ _ h => congrArg Prod.fst h⟩
abbrev pays : Finset (GSem nD τ sig × ℕ × Unit) := (bars ∪ owns').map payEmb

/-- The ghost state at launch: of the staged windows, and of the protocol. -/
def u₀ : UU :=
  (initOf (Pipeline.cells (Pipeline.pin (pcfgs (F := F)) adm) cellOf_inj) (Pipeline.launchToks (Pipeline.pin (pcfgs (F := F)) adm) cellOf_inj),
    launchOf bars owns' pays)

/-- The protocol's part, in the hands of device 0 until it is dealt. -/
def atZero (c : Dev nD) : sProp 𝕄 := if c = 0 then BI.own (ER (launchOf bars owns' pays)) else iprop(emp)
theorem atZero_all : (bigSep Finset.univ (atZero (F := F))) = BI.own (ER (launchOf bars owns' pays)) := by
  rw [bigSep_univ_at _ (0 : Dev nD), bigSep_congr (s := Finset.univ.erase (0 : Dev nD)) (Ψ := fun _ => (iprop(emp) : sProp 𝕄))
      fun c hc => by unfold atZero; rw [if_neg (Finset.ne_of_mem_erase hc)],
    show (bigSep (Finset.univ.erase (0 : Dev nD)) fun _ => (iprop(emp) : sProp 𝕄)) = iprop(emp) from bigSep_emp_const _]
  unfold atZero; rw [if_pos rfl]
  exact BI.equiv_iff.mp sep_emp

/-- What all devices may read: every cell's invariant and that round 0 of every barrier is on. -/
def known (κ : GSem nD τ sig → ℕ) : sProp 𝕄 :=
  iprop((bigSep (bars ∪ owns') fun g => inv (act m) (wgt m) κ g) ∗ bigSep bars fun g => reached ER g 0)
instance known_persistent (κ : GSem nD τ sig → ℕ) : BI.Persistent (known m κ) := by unfold known; infer_instance

theorem inv_of (κ : GSem nD τ sig → ℕ) {g : GSem nD τ sig} (hg : g ∈ bars ∪ owns') : known m κ ⊢ inv (act m) (wgt m) κ g := by
  unfold known
  iintro ⟨#HI, -⟩
  iapply (show (bigSep (bars ∪ owns') fun g => inv (act m) (wgt m) κ g) ⊢ (inv (act m) (wgt m) κ g : sProp 𝕄) from bigSep_elim hg)
  iexact HI
theorem reached_of (κ : GSem nD τ sig → ℕ) (c : Dev nD) : known m κ ⊢ reached ER (barCell c) 0 := by
  unfold known
  iintro ⟨-, #HR⟩
  iapply (show (bigSep bars fun g => reached ER g 0) ⊢ (reached ER (barCell c) 0 : sProp 𝕄) from
    bigSep_elim (Finset.mem_map_of_mem barEmb (Finset.mem_univ c)))
  iexact HR

/-- A fact that can be read off what is known, for every chunk. -/
theorem known_all (κ : GSem nD τ sig → ℕ) (Φ : Fin 8 → sProp 𝕄) (h : ∀ k, known m κ ⊢ Φ k) : known m κ ⊢ bigSep Finset.univ Φ := by
  have h' := bigSep_with_persistent (R := known m κ) (S := Finset.univ) (Φ := fun _ : Fin 8 => (iprop(emp) : sProp 𝕄)) (Ψ := Φ)
    fun k _ => (show iprop(known m κ ∗ emp) ⊢ Φ k from by
      iintro ⟨H, -⟩; iapply (h k); iexact H)
  iintro #H
  iapply h'
  isplitr; · iexact H
  rw [show (bigSep Finset.univ fun _ : Fin 8 => (iprop(emp) : sProp 𝕄)) = iprop(emp) from bigSep_emp_const _]
  iempintro

theorem invs_of (κ : GSem nD τ sig → ℕ) (c : Dev nD) : known m κ ⊢ invs (act m) (wgt m) κ c := by
  unfold invs
  iintro #H
  isplitr; · iapply (inv_of m κ (bar_mem c)); iexact H
  isplitr; · iapply (inv_of m κ (bar_mem (prt c))); iexact H
  isplitr; · iapply (known_all m κ _ fun k => inv_of m κ (own_mem c (.inl k))); iexact H
  isplitr; · iapply (known_all m κ _ fun k => inv_of m κ (own_mem c (.inr k))); iexact H
  iapply (known_all m κ _ fun k => inv_of m κ (own_mem (prt c) (.inr k))); iexact H

/-- What device `c` alone gets: its place at its barrier, the rights to open its cells, the tokens of what it pays. -/
def share (c : Dev nD) : sProp 𝕄 :=
  iprop(atPos ER (barCell c) 0 ∅ 0
    ∗ (bigSep Finset.univ fun k : Fin 8 => iprop(openTok ER (sendCell c k) ∗ openTok ER (recvCell c k)))
    ∗ dutyTok ER (barCell (prt c)) 0 () ∗ bigSep Finset.univ (toks c))

theorem ghost_of (κ : GSem nD τ sig → ℕ) (c : Dev nD) : iprop(known m κ ∗ share c) ⊢ iprop(∃ K, ghost (act m) (wgt m) K c) := by
  unfold share ghost
  iintro ⟨#H, Hat, Hopen, HtP, Htoks⟩
  iexists κ
  isplitr; · iapply (invs_of m κ c); iexact H
  isplitl [Hat]; · iexact Hat
  isplitr; · iapply (reached_of m κ (prt c)); iexact H
  isplitl [HtP]; · iexact HtP
  isplitl [Hopen]; · iexact Hopen
  iexact Htoks

/-- The rights to open the cells, device by device. -/
theorem opens_eq : (bigSep owns' fun g => (openTok ER g : sProp 𝕄))
    = bigSep Finset.univ fun c : Dev nD => bigSep Finset.univ fun k : Fin 8 => iprop(openTok ER (sendCell c k) ∗ openTok ER (recvCell c k)) := by
  rw [bigSep_map, bigSep_univ_prod]
  refine bigSep_congr fun c _ => ?_
  rw [bigSep_univ_sum, bigSep_sep']
  rfl

/-- The tokens: those of a barrier and of a receive cell go to the partner, who pays there. -/
theorem pays_eq : (bigSep pays fun x => (dutyTok ER x.1 x.2.1 x.2.2 : sProp 𝕄))
    = bigSep Finset.univ fun c : Dev nD => iprop(dutyTok ER (barCell (prt c)) 0 () ∗ bigSep Finset.univ (toks c)) := by
  have hb : (bigSep bars fun g => (dutyTok ER g 0 () : sProp 𝕄)) = bigSep Finset.univ fun c : Dev nD => dutyTok ER (barCell (prt c)) 0 () := by
    rw [bigSep_map]
    exact bigSep_univ_equiv swap (fun c : Dev nD => (dutyTok ER (barCell c) 0 () : sProp 𝕄))
  have ho : (bigSep owns' fun g => (dutyTok ER g 0 () : sProp 𝕄)) = bigSep Finset.univ fun c : Dev nD => bigSep Finset.univ (toks c) := by
    rw [bigSep_map, bigSep_univ_prod]
    refine (bigSep_congr fun c _ => bigSep_univ_sum _).trans ((BI.bigSep_sep _ _ _).trans ?_)
    refine Eq.trans ?_ (BI.bigSep_sep _ _ _).symm |>.trans (bigSep_congr fun c _ => (BI.bigSep_sep _ _ _).symm)
    exact congrArg (fun Q : sProp 𝕄 => BI.sep _ Q)
      (bigSep_univ_equiv swap (fun c : Dev nD => bigSep Finset.univ fun k : Fin 8 => (dutyTok ER (recvCell c k) 0 () : sProp 𝕄)))
  rw [bigSep_map]
  show (bigSep (bars ∪ owns') fun g => (dutyTok ER g 0 () : sProp 𝕄)) = _
  rw [bigSep_union bars_owns, hb, ho]
  exact (BI.bigSep_sep _ _ _).symm

/-- The credit a device is launched with. -/
theorem purse_of (c : Dev nD) : (Pipeline.launchCred O₀ c : sProp 𝕄) ⊢ purse c := by
  have hO : O₀ = fun d => (∑ j : Fin 8, tallyAt (recvCell (prt d) j) () N) + tallyAt (barCell (prt d)) () 1 := funext fun d => by
    unfold O₀ owe
    rw [Finset.filter_true_of_mem fun j _ => Nat.zero_le _]
  rw [hO, Pipeline.launchCred_add, Pipeline.launchCred_sum]
  unfold purse
  iintro ⟨Hr, Hb⟩
  isplitl [Hb]
  · iapply (Pipeline.launchCred_tallyAt (.reg barS) prt prt prt_prt prt_prt () 1 c); iexact Hb
  · iapply (show (bigSep Finset.univ fun k : Fin 8 => Pipeline.launchCred (fun d => tallyAt (recvCell (prt d) k) () N) c)
        ⊢ (bigSep Finset.univ fun k : Fin 8 => cred (tallyAt (recvCell c k) () N) : sProp 𝕄) from
      bigSep_mono fun k _ => Pipeline.launchCred_tallyAt (.dma (recvS k)) prt prt prt_prt prt_prt () N c)
    iexact Hr

theorem bars_only (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-! ## The run -/

/-- What a core starts with, and what of it is not the protocol's. -/
def atStart (c : Dev nD) : sProp 𝕄 := iprop(StableHlo.held (c : Thread nD τ) arrays (mem₀ m c) ∗ ride m c)
def plain (c : Dev nD) : sProp 𝕄 :=
  iprop(StableHlo.held (c : Thread nD τ) arrays (mem₀ m c) ∗ purse c ∗ owes (c : Thread nD τ) (O₀ c) ∅ ∗ ∃ r, prngReg c r)

theorem atStart_of (κ : GSem nD τ sig → ℕ) (c : Dev nD) : iprop(known m κ ∗ (share c ∗ plain m c)) ⊢ atStart m c := by
  unfold plain atStart ride kept₀
  iintro ⟨#H, Hs, Hh, Hc, HO, Hp⟩
  isplitl [Hh]; · iexact Hh
  isplitl [Hs Hc]
  · isplitl [Hs]
    · iapply (ghost_of m κ c)
      isplitr; · iexact H
      iexact Hs
    iexact Hc
  isplitl [Hp]; · iexact Hp
  iexists ∅; iexact HO

/-- One core's launch holdings, sorted. -/
theorem sorted (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ atZero c)
    ⊢ (iprop(plain m c ∗ (semVal (barCell c) 0 ∗ atZero c)) : sProp 𝕄) := by
  rw [show unscopedBufs c (fun b => m ((c : Thread nD τ).loc b)) = StableHlo.held (c : Thread nD τ) arrays (mem₀ m c) from arrays_held c (mem₀ m c),
    bars_only]
  unfold plain
  iintro ⟨Hh, Hv, HO, Hc, Hp, HG⟩
  isplitr [Hv HG]
  · isplitl [Hh]; · iexact Hh
    isplitl [Hc]; · iapply (purse_of c); iexact Hc
    isplitl [HO]; · iexact HO
    iexists (ρ c); iexact Hp
  isplitl [Hv] <;> iassumption

/-- From the launch to every core's start. -/
theorem dealt :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ atZero c)) ∗ levAts L lv)
      ⊢ (|={Set.univ}=> bigSep Finset.univ (atStart m) : sProp 𝕄) := by
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ atZero c))
      ⊢ (iprop((bigSep Finset.univ (plain m)) ∗ (bigSep bars fun g => semVal g 0) ∗ BI.own (ER (launchOf bars owns' pays))) : sProp 𝕄) from by
    refine BIBase.Entails.trans (bigSep_mono fun c _ => sorted m ρ c) ?_
    rw [bigSep_sep', bigSep_sep', atZero_all, bigSep_map]
    exact BIBase.Entails.rfl) $$ H
  icases H with ⟨HB, Hv, Hu⟩
  imod (Rounds.fund_launch ER (rounds (act m) (wgt m)) bars_owns (fun g _ h => h) pays) $$ [Hv Hu] with ⟨%κ, -, #Hinv, #Hr, Hat, Hopen, Htok⟩
  · isplitl [Hv]; · iexact Hv
    iexact Hu
  imodintro
  iapply (bigSep_with_persistent (R := known m κ) (Φ := fun c => iprop(share c ∗ plain m c)) fun c _ => atStart_of m κ c)
  isplitr
  · unfold known
    isplitr; · iexact Hinv
    iexact Hr
  iapply bigSep_pair
  isplitr [HB]
  · unfold share
    iapply bigSep_pair; isplitl [Hat]
    · iapply (Entails.of_eq (bigSep_map (s := Finset.univ) barEmb (Φ := fun g : GSem nD τ sig => (atPos ER g 0 ∅ 0 : sProp 𝕄)))); iexact Hat
    iapply bigSep_pair; isplitl [Hopen]
    · iapply (Entails.of_eq (opens_eq (F := F))); iexact Hopen
    iapply (Entails.of_eq (pays_eq (F := F))); iexact Htok
  · iexact HB

theorem only_bar : ∀ sm : SemLoc sig, sm.isScoped .tc = false → sm = .reg barS := by decide

set_option backward.isDefEq.respectTransparency.types false in
/-- From any memory with every counter at zero, every fair execution of `@main` on the devices ends, and then both
    arguments are unchanged on every device, the result holds the device's own products plus what its partner sent,
    and every semaphore counter is zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = res m c) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (segReshape m) (segKernel m) rfl c]; exact BIBase.Entails.rfl)
    (by simp only [segs, Pipeline.Seg.pipes_host, Pipeline.Seg.pipes_region, Pipeline.Seg.pipes_nil]; decide)
    (O₀ := O₀) (hL := L_of_ne) (G := atZero) (u₀ := u₀ (F := F))
    (hu₀ := by
      unfold u₀
      iintro Hu
      ihave H := (ownU_pair _ _) $$ Hu
      icases H with ⟨HP, HX⟩
      imodintro
      isplitl [HP]; · iexact HP
      rw [atZero_all]; iexact HX)
    (T₀ := atStart m) (Tₙ := atEnd m)
    (hch := ⟨fun c => .rfl, fun c => to_region m c, fun c => from_region m c⟩)
    (hinit := dealt m ρ)
    (QY := fun c s => (s.mem ((c : Thread nD τ).loc main_arg0) = mem₁ m c main_arg0 ∧ s.mem ((c : Thread nD τ).loc main_arg1) = mem₁ m c main_arg1
      ∧ s.mem ((c : Thread nD τ).loc main_v2) = res m c) ∧ s.sem (barCell c) = 0)
    (hfin := fun c s' => by
      unfold atEnd
      iintro ⟨⟨⟨H0, H1, H2⟩, Hb⟩, HSI⟩
      icombine HSI H0 gives %h0
      icombine HSI H1 gives %h1
      icombine HSI H2 gives %h2
      icombine HSI Hb gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => ⟨(h c).1.1.trans (V_main_arg0 m c), (h c).1.2.1.trans (V_main_arg1 m c), (h c).1.2.2⟩,
      sem_eq_zero hs fun c sm hsm => by
        obtain rfl := only_bar sm hsm
        exact (h c).2⟩)

end Cert.KernelIdeal.Pair
-- ==== Proof.Value.lean ====
/-
  The result's value over the extended reals: each device's block of the whole product.
-/
module

public import proofs.«01_k».proof.Proof.Common
public import proofs.«01_k».proof.Proof.Gen.KernelIdeal.Frame
public import proofs.«01_k».proof.Proof.Gen.ReferenceIdeal.Run
public import Idealize.ShloMosaic.Lib.MatmulPlain
public import Idealize.ShloMosaic.Lib.ValueLayout
public import Idealize.ShloMosaic.Lib.Pointwise.Contract
public import Idealize.ShloMosaic.Lib.Claim
public import Idealize.ShloMosaic.Lib.Layout
public import proofs.«01_k».proof.Proof.Region

@[expose] public section

noncomputable section

namespace Cert.KernelIdeal.Pair

open Idealize.ShloMosaic hiding ix2 ix3 ix4 eq_ix3
open Idealize.ShloMosaic.TcCoe
open Idealize.ShloMosaic.ValueIdx (ix2 ix3 ix4 eq_ix3 shapeCast_ab_1ab_apply shapeCast_1ab_ab_apply)
open Cert.KernelIdeal Cert.KernelIdeal.Gen

/-! ## The kernel's products -/

/-- A product of 128 rows with the weights, at an index. -/
theorem sendVal_apply (w : Vec Ideal S512x1024 .f32) (v : Vec Ideal S1x128x512 .f32) (r : Fin 128) (n : Fin 1024) :
    sendVal w v (ix3 0 r n) = ∑ k : Fin 512, v (ix3 0 r k) * w (ix2 k n) := by
  show shapeCast S1x128x1024 (FloatOps.matmul (DotDims.plain 128 512 1024) none (shapeCast S128x512 v _) (k0_pay1 w) (constant S128x1024 .f32 0x00000000#32)) _ (ix3 0 r n) = _
  rw [shapeCast_ab_1ab_apply, Ideal.matmul_plain_apply, show k0_pay1 w = w from shapeCast_self w _]
  show Ideal.ofBits .f32 0x00000000#32 + _ = _
  rw [Ideal.ofBits_zero_f32, zero_add]
  exact Finset.sum_congr rfl fun k _ => by rw [shapeCast_1ab_ab_apply]

/-- A product of 256 rows with the weights, at an index. -/
theorem keepVal_apply (w : Vec Ideal S512x1024 .f32) (v : Vec Ideal S1x256x512 .f32) (r : Fin 256) (n : Fin 1024) :
    keepVal w v (ix3 0 r n) = ∑ k : Fin 512, v (ix3 0 r k) * w (ix2 k n) := by
  show shapeCast S1x256x1024 (FloatOps.matmul (DotDims.plain 256 512 1024) none (shapeCast S256x512 v _) (k0_pay1 w) (constant S256x1024 .f32 0x00000000#32)) _ (ix3 0 r n) = _
  rw [shapeCast_ab_1ab_apply, Ideal.matmul_plain_apply, show k0_pay1 w = w from shapeCast_self w _]
  show Ideal.ofBits .f32 0x00000000#32 + _ = _
  rw [Ideal.ofBits_zero_f32, zero_add]
  exact Finset.sum_congr rfl fun k _ => by rw [shapeCast_1ab_ab_apply]

/-- The half of the mesh device `c` lies in. -/
def half (c : Dev nD) : Fin 2 := ⟨c.val / 16, by have : c.val < 32 := c.isLt; omega⟩
theorem half_prt (c : Dev nD) : (half (prt c)).val = 1 - (half c).val := by
  have : c.val < 32 := c.isLt
  show (prt c).val / 16 = 1 - c.val / 16
  rw [prt_val]; omega

/-- Row `s` of the half sequence `h`, in the whole sequence. -/
def seqAt (h : Fin 2) (s : Fin 256) : Fin 512 := ⟨256 * h.val + s.val, by omega⟩

section
variable (A : Dev nD → Vec Ideal S4x512x512 .f32) (B : Dev nD → Vec Ideal S512x1024 .f32)

/-- One entry of the product of device `c`'s activations and weights. -/
def prod (c : Dev nD) (b : Fin 4) (s : Fin 512) (n : Fin 1024) : EReal := ∑ k : Fin 512, A c (ix3 b s k) * B c (ix2 k n)

/-- What a device sends is its product's rows in its partner's half. -/
theorem sent_apply (c : Dev nD) (b : Fin 4) (s : Fin 256) (n : Fin 1024) :
    sent A B c (ix3 b s n) = prod A B c b (seqAt (half (prt c)) s) n := by
  unfold sent prod
  rw [show inCh (ix3 b s n) = ix3 (0 : Fin 1) (⟨s.val % 128, Nat.mod_lt _ (by decide)⟩ : Fin 128) n from Shape.idx3_ext rfl rfl rfl, sendVal_apply]
  refine Finset.sum_congr rfl fun k _ => ?_
  have hc : c.val < 32 := c.isLt
  have e : (chOf (ix3 b s n)).val = 2 * b.val + s.val / 128 := rfl
  have hh := half_prt c
  have hd : (half c).val = c.val / 16 := rfl
  unfold fromRows
  refine congrArg (fun x => A c x * B c (ix2 k n)) (Shape.idx3_ext ?_ ?_ ?_)
  · refine (emb_val _ _ _ _ _).trans ((congrArg (· + _) (congrFun (fromOff_eq c _) 0)).trans ?_)
    show (chOf (ix3 b s n)).val / 2 + 0 = b.val
    omega
  · refine (emb_val _ _ _ _ _).trans ((congrArg (· + _) (congrFun (fromOff_eq c _) 1)).trans ?_)
    show (128 * ((chOf (ix3 b s n)).val % 2) + 256) - 256 * (c.val / 16) + s.val % 128 = 256 * (half (prt c)).val + s.val
    omega
  · refine (emb_val _ _ _ _ _).trans ((congrArg (· + _) (congrFun (fromOff_eq c _) 2)).trans ?_)
    show 0 + k.val = k.val
    omega

/-- What a device keeps is its product's rows in its own half. -/
theorem kept_apply (c : Dev nD) (b : Fin 4) (s : Fin 256) (n : Fin 1024) :
    kept A B c (ix3 b s n) = prod A B c b (seqAt (half c) s) n := by
  unfold kept prod
  rw [show inBt (ix3 b s n) = ix3 (0 : Fin 1) s n from Shape.idx3_ext rfl rfl rfl, keepVal_apply]
  refine Finset.sum_congr rfl fun k _ => ?_
  unfold keepRows
  refine congrArg (fun x => A c x * B c (ix2 k n)) (Shape.idx3_ext ?_ ?_ ?_)
  · refine (emb_val _ _ _ _ _).trans ((congrArg (· + _) (congrFun (keepOff_eq c _) 0)).trans ?_)
    show b.val + 0 = b.val
    omega
  · refine (emb_val _ _ _ _ _).trans ((congrArg (· + _) (congrFun (keepOff_eq c _) 1)).trans ?_)
    show 256 * (c.val / 16) + s.val = 256 * (c.val / 16) + s.val
    rfl
  · refine (emb_val _ _ _ _ _).trans ((congrArg (· + _) (congrFun (keepOff_eq c _) 2)).trans ?_)
    show 0 + k.val = k.val
    omega

/-- The result on device `c`: both partners' products, in the half of the sequence that is `c`'s. -/
theorem total_apply (c : Dev nD) (b : Fin 4) (s : Fin 256) (n : Fin 1024) :
    total A B c (ix3 b s n) = prod A B c b (seqAt (half c) s) n + prod A B (prt c) b (seqAt (half c) s) n := by
  show kept A B c (ix3 b s n) + sent A B (prt c) (ix3 b s n) = _
  rw [kept_apply, sent_apply, prt_prt]

end

/-! ## The whole product -/

/-- Entry `k` of half `h` of a contracted axis. -/
def ctrAt (h : Fin 2) (k : Fin 512) : Fin 1024 := ⟨512 * h.val + k.val, by omega⟩

section
variable (X : (⟨4, ![4, 512, 16, 64]⟩ : Shape).Idx → EReal) (W : (⟨2, ![1024, 1024]⟩ : Shape).Idx → EReal)

/-- The whole activations with their heads laid end to end. -/
def flat (b : Fin 4) (s : Fin 512) (k : Fin 1024) : EReal := X (ix4 b s ⟨k.val / 64, by omega⟩ ⟨k.val % 64, by omega⟩)
/-- The part of one entry of the whole product that half `h` of the contracted axis adds. -/
def part (h : Fin 2) (b : Fin 4) (s : Fin 512) (n : Fin 1024) : EReal := ∑ k : Fin 512, flat X b s (ctrAt h k) * W (ix2 (ctrAt h k) n)

/-- One entry of the whole product is its two parts. -/
theorem whole_eq (b : Fin 4) (s : Fin 512) (n : Fin 1024) :
    ∑ k : Fin 1024, flat X b s k * W (ix2 k n) = part X W 0 b s n + part X W 1 b s n := by
  rw [show (∑ k : Fin 1024, flat X b s k * W (ix2 k n)) = ∑ k : Fin (512 + 512), flat X b s k * W (ix2 k n) from rfl, Fin.sum_univ_add]
  refine congrArg₂ (· + ·) (Finset.sum_congr rfl fun k _ => ?_) (Finset.sum_congr rfl fun k _ => ?_)
  · rw [show (Fin.castAdd 512 k : Fin (512 + 512)) = ctrAt 0 k from Fin.ext (by show k.val = 512 * 0 + k.val; omega)]
  · rw [show (Fin.natAdd 512 k : Fin (512 + 512)) = ctrAt 1 k from Fin.ext (by show 512 + k.val = 512 * 1 + k.val; omega)]

/-- In either order. -/
theorem parts_comm (c : Dev nD) (b : Fin 4) (s : Fin 512) (n : Fin 1024) :
    part X W (half c) b s n + part X W (half (prt c)) b s n = part X W 0 b s n + part X W 1 b s n := by
  have h := half_prt c
  rcases (by omega : (half c).val = 0 ∨ (half c).val = 1) with e | e
  · rw [show half c = 0 from Fin.ext e, show half (prt c) = 1 from Fin.ext (by rw [h, e]; rfl)]
  · rw [show half c = 1 from Fin.ext e, show half (prt c) = 0 from Fin.ext (by rw [h, e]; rfl), add_comm]

/-- Laying the heads end to end is a reshape. -/
theorem heads_apply (h : Shape.ShapeCasts ⟨4, ![4, 512, 16, 64]⟩ Cert.ReferenceIdeal.S4x512x1024) (b : Fin 4) (s : Fin 512) (k : Fin 1024) :
    shapeCast Cert.ReferenceIdeal.S4x512x1024 X h (ix3 b s k) = flat X b s k :=
  shapeCast_apply X h _ (ix4 b s ⟨k.val / 64, by omega⟩ ⟨k.val % 64, by omega⟩) (by
    rw [Shape.rowMajor_val_four, Shape.rowMajor_val_three]
    show ((b.val * 512 + s.val) * 16 + k.val / 64) * 64 + k.val % 64 = (b.val * 512 + s.val) * 1024 + k.val
    omega)

/-- The reference's result, at an index. -/
theorem reference_apply (b : Fin 4) (s : Fin 512) (n : Fin 1024) (h : Shape.ShapeCasts ⟨4, ![4, 512, 16, 64]⟩ Cert.ReferenceIdeal.S4x512x1024) :
    (Host.dotGeneral (F := Ideal) (φ₁ := .f32) (φ₂ := .f32) Cert.ReferenceIdeal.dot_S4x512x1024_S1024x1024_S4x512x1024_2_0_01_1_n_n none
      (shapeCast Cert.ReferenceIdeal.S4x512x1024 X h) W : FVec Ideal _ .f32) (ix3 b s n) = part X W 0 b s n + part X W 1 b s n := by
  rw [← whole_eq]
  show FloatOps.dotGeneral (F := Ideal) _ _ _ _ _ _ = _
  rw [Ideal.dotGeneral_apply, DotDims.sum_contr₁ _ (a := 2) (K := 1024) rfl rfl]
  refine Finset.sum_congr rfl fun k _ => congrArg₂ (· * ·) ?_ (congrArg W ?_)
  · refine Eq.trans (congrArg (shapeCast Cert.ReferenceIdeal.S4x512x1024 X h) (show _ = ix3 b s k from Shape.idx3_ext rfl rfl rfl)) ?_
    exact heads_apply X h b s k
  · funext a; apply Fin.ext
    match a with
    | ⟨0, _⟩ => rfl
    | ⟨1, _⟩ => rfl

end

/-! ## Each device's block of it -/

section
variable (m : (ℓ : Loc nD τ sig) → Buf (Elt Ideal) ℓ)
variable (X : (⟨4, ![4, 512, 16, 64]⟩ : Shape).Idx → EReal) (W : (⟨2, ![1024, 1024]⟩ : Shape).Idx → EReal)

theorem mesh_x (c : Dev nD) : Layout.meshLin [2, 4, 4] c.val [0] = (half c).val := by
  have : c.val < 32 := c.isLt
  show c.val / 16 % 2 * 1 + 0 = c.val / 16
  omega

/-- The staged windows are the whole arrays. -/
theorem act_at (c : Dev nD) (i : S4x512x512.Idx) : act m c i = V m c main_v1 i := by
  have h0 : win0_0.index t0_0 0 = 0 := by decide
  have h1 : win0_0.index t0_0 1 = 0 := by decide
  have h2 : win0_0.index t0_0 2 = 0 := by decide
  refine congrArg (V m c main_v1) (Shape.idx3_ext ?_ ?_ ?_)
  · blk_simp [h0]
  · blk_simp [h1]
  · blk_simp [h2]
theorem wgt_at (c : Dev nD) (i : S512x1024.Idx) : wgt m c i = m ((c.tc : Thread nD τ).loc main_arg1) i := by
  have h0 : win0_1.index t0_0 0 = 0 := by decide
  have h1 : win0_1.index t0_0 1 = 0 := by decide
  refine Eq.trans (congrArg (V m c main_arg1) (show _ = i from ?_)) (congrFun (V_main_arg1 m c) i)
  funext a; apply Fin.ext
  match a with
  | ⟨0, _⟩ => blk_simp [h0]
  | ⟨1, _⟩ => blk_simp [h1]

/-- Device `c`'s activations, heads laid end to end, are its half of the whole ones. -/
theorem act_apply (c : Dev nD)
    (h : m ((c.tc : Thread nD τ).loc main_arg0) = Layout.blockN ⟨4, ![4, 512, 8, 64]⟩ ⟨4, ![4, 512, 16, 64]⟩ (Layout.meshBlock [2, 4, 4] ![[], [], [0], []] c) X)
    (b : Fin 4) (s : Fin 512) (k : Fin 512) : act m c (ix3 b s k) = flat X b s (ctrAt (half c) k) := by
  rw [act_at]
  entry_read
  rw [shapeCast_apply _ _ _ (ix4 b s (⟨k.val / 64, by omega⟩ : Fin 8) (⟨k.val % 64, by omega⟩ : Fin 64)) (by
    refine (Shape.rowMajor_val_four _).trans (Eq.trans ?_ (Shape.rowMajor_val_three (d := ![4, 512, 512]) (ix3 b s k)).symm)
    show ((b.val * 512 + s.val) * 8 + k.val / 64) * 64 + k.val % 64 = (b.val * 512 + s.val) * 512 + k.val
    omega), h]
  have hx := mesh_x c
  refine congrArg X ?_
  funext a; apply Fin.ext
  match a with
  | ⟨0, _⟩ => show 0 * 4 + b.val = b.val; omega
  | ⟨1, _⟩ => show 0 * 512 + s.val = s.val; omega
  | ⟨2, _⟩ => show Layout.meshLin [2, 4, 4] c.val [0] * 8 + k.val / 64 = (512 * (half c).val + k.val) / 64; omega
  | ⟨3, _⟩ => show 0 * 64 + k.val % 64 = (512 * (half c).val + k.val) % 64; omega

/-- Device `c`'s weights are its half of the whole ones. -/
theorem wgt_apply (c : Dev nD)
    (h : m ((c.tc : Thread nD τ).loc main_arg1) = Layout.blockN ⟨2, ![512, 1024]⟩ ⟨2, ![1024, 1024]⟩ (Layout.meshBlock [2, 4, 4] ![[0], []] c) W)
    (k : Fin 512) (n : Fin 1024) : wgt m c (ix2 k n) = W (ix2 (ctrAt (half c) k) n) := by
  rw [wgt_at, h]
  have hx := mesh_x c
  refine congrArg W ?_
  funext a; apply Fin.ext
  match a with
  | ⟨0, _⟩ => show Layout.meshLin [2, 4, 4] c.val [0] * 512 + k.val = 512 * (half c).val + k.val; omega
  | ⟨1, _⟩ => show 0 * 1024 + n.val = n.val; omega

/-- When every device holds its blocks of the arguments, the result on each is its block of the reference's. -/
theorem res_block
    (h : ∀ c : Dev nD,
      m ((c.tc : Thread nD τ).loc main_arg0) = Layout.blockN ⟨4, ![4, 512, 8, 64]⟩ ⟨4, ![4, 512, 16, 64]⟩ (Layout.meshBlock [2, 4, 4] ![[], [], [0], []] c) X
      ∧ m ((c.tc : Thread nD τ).loc main_arg1) = Layout.blockN ⟨2, ![512, 1024]⟩ ⟨2, ![1024, 1024]⟩ (Layout.meshBlock [2, 4, 4] ![[0], []] c) W)
    (hc : Shape.ShapeCasts ⟨4, ![4, 512, 16, 64]⟩ Cert.ReferenceIdeal.S4x512x1024) (c : Dev nD) :
    res m c = Layout.blockN ⟨3, ![4, 256, 1024]⟩ ⟨3, ![4, 512, 1024]⟩ (Layout.meshBlock [2, 4, 4] ![[], [0], []] c)
      (Host.dotGeneral (F := Ideal) (φ₁ := .f32) (φ₂ := .f32) Cert.ReferenceIdeal.dot_S4x512x1024_S1024x1024_S4x512x1024_2_0_01_1_n_n none
        (shapeCast Cert.ReferenceIdeal.S4x512x1024 X hc) W : FVec Ideal _ .f32) := by
  have hp (d : Dev nD) (b : Fin 4) (s : Fin 512) (n : Fin 1024) : prod (act m) (wgt m) d b s n = part X W (half d) b s n :=
    Finset.sum_congr rfl fun k _ => by rw [act_apply m X d (h d).1, wgt_apply m W d (h d).2]
  funext i
  obtain ⟨b, s, n, rfl⟩ : ∃ (b : Fin 4) (s : Fin 256) (n : Fin 1024), i = ix3 b s n := ⟨i 0, i 1, i 2, eq_ix3 i⟩
  refine (total_apply _ _ c b s n).trans ?_
  rw [hp, hp, parts_comm]
  refine (reference_apply X W _ _ _ hc).symm.trans ?_
  refine congrArg (Host.dotGeneral (F := Ideal) _ none _ _) (Shape.idx3_ext ?_ ?_ ?_)
  · show b.val = 0 * 4 + b.val; omega
  · have hx := mesh_x c
    show 256 * (half c).val + s.val = Layout.meshLin [2, 4, 4] c.val [0] * 256 + s.val; omega
  · show n.val = 0 * 1024 + n.val; omega

end

end Cert.KernelIdeal.Pair
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The two programs' kernel tables are one, label by label. -/
theorem same_defs₀ : Cert.Kernel.defs₀ (F := Bits) = Cert.KernelIdeal.defs₀ := by
  unfold Cert.Kernel.defs₀ Cert.KernelIdeal.defs₀
  refine congrArg Defs.onTc (funext fun l => funext fun a => ?_)
  match l, a with
  | ⟨0, _⟩, (t, s) => rfl

/-- So are their body tables, regions and pipelines included. -/
theorem same_defs : Cert.Kernel.defs (F := Bits) = Cert.KernelIdeal.defs := congrArg (Pipeline.defs _) same_defs₀

/-- At the words: the arguments end unchanged and every counter at zero. The two programs are one text, so the run is the same. -/
theorem frame_kernel : Cert.quiescent_Kernel := by
  intro m ρ _
  rw [same_defs]
  exact (θ_run Cert.KernelIdeal.defs _ _).mono (fun _ h => ⟨fun c => ⟨(h.1 c).1, (h.1 c).2.1⟩, h.2⟩)
    (Cert.KernelIdeal.Pair.run_main (F := Bits) m ρ)

/-- The same over the extended reals. -/
theorem frame_kernelIdeal : Cert.quiescent_KernelIdeal := fun m ρ _ =>
  (θ_run Cert.KernelIdeal.defs _ _).mono (fun _ h => ⟨fun c => ⟨(h.1 c).1, (h.1 c).2.1⟩, h.2⟩) (Cert.KernelIdeal.Pair.run_main (F := Ideal) m ρ)

/-- The reference: its arguments end unchanged, and it has no counters. -/
theorem frame_referenceIdeal : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- The result on each device is its block of the reference's result. -/
theorem algebraic : Cert.algebraic_KernelIdeal_ReferenceIdeal := fun m ρ m' ρ' _ h =>
  ⟨_,
    (θ_run Cert.KernelIdeal.defs _ _).mono (fun _ hr c => ⟨(hr.1 c).2.2.trans (Cert.KernelIdeal.Pair.res_block m _ _ h _ c), (hr.1 c).1, (hr.1 c).2.1⟩)
      (Cert.KernelIdeal.Pair.run_main (F := Ideal) m ρ),
    (θ_run Cert.ReferenceIdeal.defs _ _).mono (fun _ hr => hr 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
